-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![256, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S256x2048 : Shape := ⟨2, ![256, 2048]⟩
abbrev S192x2048 : Shape := ⟨2, ![192, 2048]⟩
abbrev S4x512x2048 : Shape := ⟨3, ![4, 512, 2048]⟩
abbrev S3 : Shape := ⟨1, ![3]⟩
abbrev S4 : Shape := ⟨1, ![4]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S2048x512 : Shape := ⟨2, ![2048, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S256x2048, .f32⟩
  | .local _ .vmem, ⟨0, _⟩ => ⟨S64x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .f32⟩
  | .local _ .vmem, ⟨4, _⟩ => ⟨S192x2048, .bf16⟩
  | .local _ .vmem, ⟨5, _⟩ => ⟨S256x2048, .bf16⟩
  | .local _ .vmem, ⟨6, _⟩ => ⟨S2048x4096, .f32⟩
  | .local _ .vmem, ⟨7, _⟩ => ⟨S4x512x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_26 : BitVec 32 := 1#32
  let v32 : BitVec 32 := Scalar.muli v4 c1_i32_26
  let v33 : BitVec 32 := Scalar.addi c0_i32_27 v32
  v33.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_29 : BitVec 32 := 1#32
  let v34 : BitVec 32 := Scalar.muli v6 c1_i32_29
  let v35 : BitVec 32 := Scalar.addi c0_i32_30 v34
  v35.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_32 : BitVec 32 := 1#32
  let v36 : BitVec 32 := Scalar.muli v8 c1_i32_32
  let v37 : BitVec 32 := Scalar.addi c0_i32_33 v36
  v37.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v41 : BitVec 32 := Scalar.muli v2 c64_i32
  let v42 : Index := Scalar.indexCast v41
  let c0_36 : Index := 0#32
  ![v42.toNat, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_38 : BitVec 32 := 64#32
  let v47 : BitVec 32 := Scalar.muli v2 c64_i32_38
  let c0_i32_42 : BitVec 32 := 0#32
  ![v47.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_40 : BitVec 32 := 1#32
  let v48 : BitVec 32 := Scalar.muli v4 c1_i32_40
  let v49 : BitVec 32 := Scalar.addi c0_i32_41 v48
  v49.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_47 : BitVec 32 := 1#32
  let v58 : BitVec 32 := Scalar.muli v6 c1_i32_47
  let v59 : BitVec 32 := Scalar.addi c0_i32_48 v58
  v59.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_54 : BitVec 32 := 1#32
  let v68 : BitVec 32 := Scalar.muli v8 c1_i32_54
  let v69 : BitVec 32 := Scalar.addi c0_i32_55 v68
  v69.toNat
def k0_off4 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  ![v4.toNat]
def k0_off5 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c64_i32_59 : BitVec 32 := 64#32
  let v77 : BitVec 32 := Scalar.muli v4 c64_i32_59
  let c0_i32_63 : BitVec 32 := 0#32
  ![v77.toNat, 0]
def k0_off6 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c64_i32_243 : BitVec 32 := 64#32
  let v289 : BitVec 32 := Scalar.muli v4 c64_i32_243
  let v290 : Index := Scalar.indexCast v289
  let c0_244 : Index := 0#32
  ![v290.toNat, 0]
def k0_dev7 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_249 : BitVec 32 := 1#32
  let v297 : BitVec 32 := Scalar.muli v4 c1_i32_249
  let v298 : BitVec 32 := Scalar.addi c0_i32_250 v297
  v298.toNat
def k0_dev8 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_259 : BitVec 32 := 1#32
  let v313 : BitVec 32 := Scalar.muli v6 c1_i32_259
  let v314 : BitVec 32 := Scalar.addi c0_i32_260 v313
  v314.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_269 : BitVec 32 := 1#32
  let v329 : BitVec 32 := Scalar.muli v8 c1_i32_269
  let v330 : BitVec 32 := Scalar.addi c0_i32_270 v329
  v330.toNat
def k0_dev10 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_322 : BitVec 32 := 1#32
  let v396 : BitVec 32 := Scalar.muli v4 c1_i32_322
  let v397 : BitVec 32 := Scalar.addi c0_i32_323 v396
  v397.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_329 : BitVec 32 := 1#32
  let v406 : BitVec 32 := Scalar.muli v6 c1_i32_329
  let v407 : BitVec 32 := Scalar.addi c0_i32_330 v406
  v407.toNat
def k0_dev12 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_336 : BitVec 32 := 1#32
  let v416 : BitVec 32 := Scalar.muli v8 c1_i32_336
  let v417 : BitVec 32 := Scalar.addi c0_i32_337 v416
  v417.toNat
def k0_dev13 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_546 : BitVec 32 := 1#32
  let v645 : BitVec 32 := Scalar.muli v4 c1_i32_546
  let v646 : BitVec 32 := Scalar.addi c0_i32_547 v645
  v646.toNat
def k0_dev14 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_557 : BitVec 32 := 1#32
  let v661 : BitVec 32 := Scalar.muli v6 c1_i32_557
  let v662 : BitVec 32 := Scalar.addi c0_i32_558 v661
  v662.toNat
def k0_dev15 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_568 : BitVec 32 := 1#32
  let v677 : BitVec 32 := Scalar.muli v8 c1_i32_568
  let v678 : BitVec 32 := Scalar.addi c0_i32_569 v677
  v678.toNat
def k0_dev16 (d0 : Dev nD) : Nat :=
  let c0_i32_623 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_622 : BitVec 32 := 1#32
  let v744 : BitVec 32 := Scalar.muli v4 c1_i32_622
  let v745 : BitVec 32 := Scalar.addi c0_i32_623 v744
  v745.toNat
def k0_dev17 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_629 : BitVec 32 := 1#32
  let v754 : BitVec 32 := Scalar.muli v6 c1_i32_629
  let v755 : BitVec 32 := Scalar.addi c0_i32_630 v754
  v755.toNat
def k0_dev18 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_636 : BitVec 32 := 1#32
  let v764 : BitVec 32 := Scalar.muli v8 c1_i32_636
  let v765 : BitVec 32 := Scalar.addi c0_i32_637 v764
  v765.toNat
def k0_dev19 (d0 : Dev nD) : Nat :=
  let c0_i32_822 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_821 : BitVec 32 := 1#32
  let v971 : BitVec 32 := Scalar.muli v4 c1_i32_821
  let v972 : BitVec 32 := Scalar.addi c0_i32_822 v971
  v972.toNat
def k0_dev20 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_832 : BitVec 32 := 1#32
  let v987 : BitVec 32 := Scalar.muli v6 c1_i32_832
  let v988 : BitVec 32 := Scalar.addi c0_i32_833 v987
  v988.toNat
def k0_dev21 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_843 : BitVec 32 := 1#32
  let v1003 : BitVec 32 := Scalar.muli v8 c1_i32_843
  let v1004 : BitVec 32 := Scalar.addi c0_i32_844 v1003
  v1004.toNat
def k0_dev22 (d0 : Dev nD) : Nat :=
  let c0_i32_898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_897 : BitVec 32 := 1#32
  let v1070 : BitVec 32 := Scalar.muli v4 c1_i32_897
  let v1071 : BitVec 32 := Scalar.addi c0_i32_898 v1070
  v1071.toNat
def k0_dev23 (d0 : Dev nD) : Nat :=
  let c0_i32_905 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_904 : BitVec 32 := 1#32
  let v1080 : BitVec 32 := Scalar.muli v6 c1_i32_904
  let v1081 : BitVec 32 := Scalar.addi c0_i32_905 v1080
  v1081.toNat
def k0_dev24 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_911 : BitVec 32 := 1#32
  let v1090 : BitVec 32 := Scalar.muli v8 c1_i32_911
  let v1091 : BitVec 32 := Scalar.addi c0_i32_912 v1090
  v1091.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S2048x16384 : Shape := ⟨2, ![2048, 16384]⟩
abbrev S16384x2048 : Shape := ⟨2, ![16384, 2048]⟩
abbrev S256x16384 : Shape := ⟨2, ![256, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x2048, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x2048, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/- The kernel's text once more, in pieces with parameters: one tile of the two products, one layer's reduction, one gathering of
   the activations. The printed text is these pieces one after another. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Mlp

open Cert.KernelIdeal Cert.KernelIdeal.Gen
open Idealize.ShloMosaic Idealize.ShloMosaic.TcCoe
open Idealize.SL.Sem

variable {F : FTy → Type} [FloatOps F]

/-- A piece of the kernel. -/
abbrev K (F : FTy → Type) (α : Type) : Type 1 := Prog (TpuEff nD τ sig (Elt F) Λ₀ .tc) α

/-! ## The operands -/

/-- The block of x; the result; the activations; a device's partial sums; what it sends of them; what it receives; the current
    layer's first weights; the four tiles of second weights. -/
abbrev xM : Memref sig .tc .vmem S64x2048 .f32 := win0_0.stage (cfg0.slots t0_0 0)
@[inherit_doc xM] abbrev oM : Memref sig .tc .vmem S256x2048 .f32 := win0_1.stage (cfg0.slots t0_0 1)
@[inherit_doc xM] abbrev XF : Memref sig .tc .vmem S256x2048 .bf16 := Memref.whole cc0_scratch0
@[inherit_doc xM] abbrev PT : Memref sig .tc .vmem S256x2048 .f32 := Memref.whole cc0_scratch1
@[inherit_doc xM] abbrev SB : Memref sig .tc .vmem S192x2048 .bf16 := Memref.whole cc0_scratch2
@[inherit_doc xM] abbrev RV : Memref sig .tc .vmem S256x2048 .bf16 := Memref.whole cc0_scratch3
@[inherit_doc xM] abbrev WI : Memref sig .tc .vmem S2048x4096 .f32 := Memref.whole cc0_scratch4
@[inherit_doc xM] abbrev WO : Memref sig .tc .vmem S4x512x2048 .f32 := Memref.whole cc0_scratch5

/-- Layer l's first weights, its second weights. -/
def wIn : Fin 3 → Memref sig .tc .hbm S2048x4096 .f32
  | 0 => Memref.whole main_arg1
  | 1 => Memref.whole main_arg2
  | 2 => Memref.whole main_arg3
@[inherit_doc wIn] def wOut : Fin 3 → Memref sig .tc .hbm S4096x2048 .f32
  | 0 => Memref.whole main_arg4
  | 1 => Memref.whole main_arg5
  | 2 => Memref.whole main_arg6

theorem wIn_whole : (l : Fin 3) → (wIn l).IsWhole
  | 0 => Memref.isWhole_whole _
  | 1 => Memref.isWhole_whole _
  | 2 => Memref.isWhole_whole _

/-! ## Rectangles, parts of the buffers, semaphores -/

theorem inb_rows (q : Fin 4) : ∀ a, (![64 * q.val, 0] : Fin 2 → ℕ) a + S64x2048.size a ≤ S256x2048.size a := by revert q; decide
theorem inb_srows (r : Fin 3) : ∀ a, (![64 * r.val, 0] : Fin 2 → ℕ) a + S64x2048.size a ≤ S192x2048.size a := by revert r; decide
theorem inb_tile (t : Fin 8) : ∀ a, (![512 * t.val, 0] : Fin 2 → ℕ) a + S512x2048.size a ≤ S4096x2048.size a := by revert t; decide
theorem inb_cols (t : Fin 8) : ∀ a, (![0, 512 * t.val] : Fin 2 → ℕ) a + S2048x512.size a ≤ S2048x4096.size a := by revert t; decide
theorem inb_slot (s : Fin 4) : ∀ a, (![s.val, 0, 0] : Fin 3 → ℕ) a + S1x512x2048.size a ≤ S4x512x2048.size a := by revert s; decide
theorem inb_s3 (r : Fin 3) : ∀ a, (![r.val] : Fin 1 → ℕ) a + S1.size a ≤ S3.size a := by revert r; decide
theorem inb_s4 (q : Fin 4) : ∀ a, (![q.val] : Fin 1 → ℕ) a + S1.size a ≤ S4.size a := by revert q; decide

/-- Rows 64 q … 64 q + 63 of the 256; rows 64 r … of the 192; rows 512 t … of the 4096; columns 512 t … of the 4096; slot s. -/
abbrev rows (q : Fin 4) : Rect S256x2048 := Rect.unit (s := S256x2048) ![64 * q.val, 0] S64x2048.size (inb_rows q)
@[inherit_doc rows] abbrev srows (r : Fin 3) : Rect S192x2048 := Rect.unit (s := S192x2048) ![64 * r.val, 0] S64x2048.size (inb_srows r)
@[inherit_doc rows] abbrev tileR (t : Fin 8) : Rect S4096x2048 := Rect.unit (s := S4096x2048) ![512 * t.val, 0] S512x2048.size (inb_tile t)
@[inherit_doc rows] abbrev cols (t : Fin 8) : Rect S2048x4096 := Rect.unit (s := S2048x4096) ![0, 512 * t.val] S2048x512.size (inb_cols t)
@[inherit_doc rows] abbrev slotR (s : Fin 4) : Rect S4x512x2048 := Rect.unit (s := S4x512x2048) ![s.val, 0, 0] S1x512x2048.size (inb_slot s)
/-- All of the 256 rows. -/
abbrev allR : Rect S256x2048 := Rect.unit (s := S256x2048) ![0, 0] S256x2048.size inb_S256x2048_S256x2048_0_0

/-- The rows named by the device's own number and by the number r + 1 after it, as the kernel computes them. -/
abbrev ownR (c : Dev nD) : Rect S256x2048 := Rect.unit (s := S256x2048) (k0_off1 c) S64x2048.size (k0_off1_inb c)
@[inherit_doc ownR] abbrev ownR' (c : Dev nD) : Rect S256x2048 := Rect.unit (s := S256x2048) (k0_off3 c) S64x2048.size (k0_off3_inb c)
@[inherit_doc ownR] abbrev peerR (c : Dev nD) (r : Fin 3) : Rect S256x2048 :=
  Rect.unit (s := S256x2048) (k0_off5 c (BitVec.ofNat 32 (1 + r.val))) S64x2048.size (k0_off5_inb c r)
@[inherit_doc ownR] abbrev peerR' (c : Dev nD) (r : Fin 3) : Rect S256x2048 :=
  Rect.unit (s := S256x2048) (k0_off6 c (BitVec.ofNat 32 (1 + r.val))) S64x2048.size (k0_off6_inb c r)

/-- A tile of layer l's second weights, and slot s of the buffer for four of them. -/
abbrev tileM (l : Fin 3) (t : Fin 8) : Memref sig .tc .hbm S512x2048 .f32 := (wOut l).slice (tileR t) (fun _ => rfl)
@[inherit_doc tileM] abbrev slotM (s : Fin 4) : Memref sig .tc .vmem S512x2048 .f32 :=
  (WO.slice (slotR s) (fun _ => rfl)).squeeze S512x2048 squeezes_S1x512x2048_S512x2048

/-- Entry i of an array of three, or of four, semaphores. -/
abbrev at3 (a : DmaSems sig S3) (r : Fin 3) : DmaSem sig := ((a.slice (Rect.unit (s := S3) ![r.val] S1.size (inb_s3 r))).squeeze S_ squeezes_S1_S_).sem
@[inherit_doc at3] abbrev at4 (a : DmaSems sig S4) (q : Fin 4) : DmaSem sig := ((a.slice (Rect.unit (s := S4) ![q.val] S1.size (inb_s4 q))).squeeze S_ squeezes_S1_S_).sem
/-- The entry of the device's own number, and of the number r + 1 after it, as the kernel computes them. -/
abbrev atOwn (a : DmaSems sig S4) (c : Dev nD) : DmaSem sig :=
  ((a.slice (Rect.unit (s := S4) (k0_off2 c) S1.size (k0_off2_inb c))).squeeze S_ squeezes_S1_S_).sem
@[inherit_doc atOwn] abbrev atPeer (a : DmaSems sig S4) (c : Dev nD) (r : Fin 3) : DmaSem sig :=
  ((a.slice (Rect.unit (s := S4) (k0_off4 c (BitVec.ofNat 32 (1 + r.val))) S1.size (k0_off4_inb c r))).squeeze S_ squeezes_S1_S_).sem
/-- The one semaphore of the first weights' transfers. -/
abbrev wiS : DmaSem sig := ((cc0_scratch10.slice (Rect.unit (s := S1) ![0] S1.size inb_S1_S1_0)).squeeze S_ squeezes_S1_S_).sem
/-- The barrier's semaphore. -/
abbrev barS : Sem sig := (SemArray.scalar (sig.barrier 0 rfl) : Sems sig S_).sem

/-- The device r + 1 places on, as the kernel computes it. -/
def dv (c : Dev nD) : Fin 3 → Dev nD
  | 0 => ⟨k0_dev1 c, k0_dev1_lt c⟩
  | 1 => ⟨k0_dev2 c, k0_dev2_lt c⟩
  | 2 => ⟨k0_dev3 c, k0_dev3_lt c⟩

/-! ## The weights' transfers -/

/-- The layer and the tile of step k of 24, and its slot. -/
abbrev lay (k : Fin 24) : Fin 3 := ⟨k.val / 8, by omega⟩
@[inherit_doc lay] abbrev til (k : Fin 24) : Fin 8 := ⟨k.val % 8, by omega⟩
@[inherit_doc lay] abbrev slo (k : Fin 24) : Fin 4 := ⟨k.val % 4, by omega⟩

/-- Start bringing in layer l's first weights; wait for them. -/
def issueIn (l : Fin 3) : K F PUnit := Prog.lift (.enqueueDma (wIn l) (.here WI) (.dma wiS) (wIn_whole l).wordExact (Memref.isWhole_whole _).wordExact ⟨Or.inl rfl, trivial⟩)
@[inherit_doc issueIn] def waitIn (l : Fin 3) : K F PUnit := Prog.lift (.waitDma2 wiS (wIn l) WI (wIn_whole l).wordExact (Memref.isWhole_whole _).wordExact)
/-- Start bringing in step k's second weights; wait for them. -/
def issueOut (k : Fin 24) : K F PUnit :=
  Prog.lift (.enqueueDma (tileM (lay k) (til k)) (.here (slotM (slo k))) (.dma (at4 cc0_scratch11 (slo k))) (View.wordExact_bits rfl) ((View.wordExact_bits rfl).reshape _ _) ⟨Or.inl rfl, trivial⟩)
@[inherit_doc issueOut] def waitOut (k : Fin 24) : K F PUnit :=
  Prog.lift (.waitDma2 (at4 cc0_scratch11 (slo k)) (tileM (lay k) (til k)) (slotM (slo k)) (View.wordExact_bits rfl) ((View.wordExact_bits rfl).reshape _ _))

/-! ## One layer's products -/

/-- Step k: a tile of both products on the activations xf, added to acc. The last step of a layer starts the next layer's first
    weights once it has read this layer's; every step starts the second weights of the step four on. -/
def tile (k : Fin 24) (xf : Vec F S256x2048 .bf16) (acc : FVec F S256x2048 .f32) : K F (FVec F S256x2048 .f32) := do
  let w : Vec F S2048x512 .f32 ← Prog.lift (.load WI (cols (til k)).toLoadRect (View.loadsAt_vmem h_S2048x512))
  if h : k.val % 8 = 7 ∧ k.val / 8 + 1 < 3 then issueIn ⟨k.val / 8 + 1, h.2⟩ else pure ⟨⟩
  waitOut k
  let b : Vec F S1x512x2048 .f32 ← Prog.lift (.load WO (slotR (slo k)).toLoadRect (View.loadsAt_vmem h_S1x512x2048))
  if h : k.val + 4 < 24 then issueOut ⟨k.val + 4, h⟩ else pure ⟨⟩
  pure (k0_pay4 xf acc w b)

/-- The first n steps of layer l. -/
def tiles (l : Fin 3) (xf : Vec F S256x2048 .bf16) : (n : ℕ) → n ≤ 8 → K F (FVec F S256x2048 .f32)
  | 0, _ => pure k0_pay3
  | n + 1, h => do
    let acc ← tiles l xf n (Nat.le_of_succ_le h)
    tile ⟨8 * l.val + n, by omega⟩ xf acc

/-- Layer l's products on the gathered activations, left in the buffer of partial sums. -/
def products (l : Fin 3) : K F PUnit := do
  let xf : Vec F S256x2048 .bf16 ← Prog.lift (.load XF allR.toLoadRect (View.loadsAt_vmem h_S256x2048))
  waitIn l
  let acc ← tiles l xf 8 (Nat.le_refl 8)
  let _ : Vec F S256x2048 .f32 ← Prog.lift (.load PT allR.toLoadRect (View.loadsAt_vmem h_S256x2048))
  Prog.lift (.store PT allR (k0_pay45 acc) Finset.univ (View.stores_vmem_bits_univ h_S256x2048 rfl) (.inl rfl))

/-! ## Gathering and reducing -/

/-- Write the device's own rows of the activations. -/
def putOwn (c : Dev nD) (v : FVec F S64x2048 .bf16) : K F PUnit := do
  let _ : Vec F S64x2048 .bf16 ← Prog.lift (.load XF (ownR c).toLoadRect (View.loadsAt_vmem h_S64x2048))
  Prog.lift (.store XF (ownR c) v Finset.univ (View.stores_vmem h_S64x2048 ((Memref.isWhole_whole _).storeExact_slice rfl _ (k0_off1_packedbf16 c)) (fun _ => rfl)) (.inl rfl))

/-- Send the device's own rows of the activations r + 1 places on; wait for the rows from r + 1 places on; wait until the rows sent
    r + 1 places on have left. -/
def agSend (c : Dev nD) (r : Fin 3) : K F PUnit :=
  Prog.lift (.enqueueDma (XF.slice (ownR' c) (fun _ => rfl)) (.remote (Dev.tc (dv c r)) (XF.slice (ownR' c) (fun _ => rfl)) (.dma (at3 cc0_scratch6 r))) (.dma (atOwn cc0_scratch7 c))
    ((Memref.isWhole_whole _).wordExact_slice rfl _ (k0_off3_wordsbf16 c)) ((Memref.isWhole_whole _).wordExact_slice rfl _ (k0_off3_wordsbf16 c)) ⟨⟨rfl, Or.inl rfl⟩, trivial⟩)
@[inherit_doc agSend] def agRecv (c : Dev nD) (r : Fin 3) : K F PUnit :=
  Prog.lift (.waitDma2 (atPeer cc0_scratch7 c r) (XF.slice (ownR' c) (fun _ => rfl)) (XF.slice (peerR c r) (fun _ => rfl))
    ((Memref.isWhole_whole _).wordExact_slice rfl _ (k0_off3_wordsbf16 c)) ((Memref.isWhole_whole _).wordExact_slice rfl _ (k0_off5_wordsbf16 c r)))
@[inherit_doc agSend] def agSent (c : Dev nD) (r : Fin 3) : K F PUnit :=
  Prog.lift (.waitDma2 (at3 cc0_scratch6 r) (XF.slice (ownR' c) (fun _ => rfl)) (XF.slice (ownR' c) (fun _ => rfl))
    ((Memref.isWhole_whole _).wordExact_slice rfl _ (k0_off3_wordsbf16 c)) ((Memref.isWhole_whole _).wordExact_slice rfl _ (k0_off3_wordsbf16 c)))

/-- Gather the activations from all devices. -/
def gather (c : Dev nD) : K F PUnit := do
  agSend c 0
  agSend c 1
  agSend c 2
  agRecv c 0
  agRecv c 1
  agRecv c 2
  agSent c 0
  agSent c 1
  agSent c 2

theorem packed_srows (r : Fin 3) : (srows r).PackedRows (EltTy.packing .bf16) := by revert r; decide +kernel
theorem words_srows (r : Fin 3) : (srows r).WholeWords (EltTy.packing .bf16) := by revert r; decide +kernel

/-- Send the partial sums of the device r + 1 places on to it; wait for one's own from it and add them; wait until what was sent to
    it has left. -/
def rsSend (c : Dev nD) (r : Fin 3) : K F PUnit := do
  let v : Vec F S64x2048 .f32 ← Prog.lift (.load PT (peerR' c r).toLoadRect (View.loadsAt_vmem h_S64x2048))
  let _ : Vec F S64x2048 .bf16 ← Prog.lift (.load SB (srows r).toLoadRect (View.loadsAt_vmem h_S64x2048))
  Prog.lift (.store SB (srows r) (k0_pay13 v) Finset.univ (View.stores_vmem h_S64x2048 ((Memref.isWhole_whole _).storeExact_slice rfl _ (packed_srows r)) (fun _ => rfl)) (.inl rfl))
  Prog.lift (.enqueueDma (SB.slice (srows r) (fun _ => rfl)) (.remote (Dev.tc (dv c r)) (RV.slice (ownR' c) (fun _ => rfl)) (.dma (at3 cc0_scratch8 r))) (.dma (atOwn cc0_scratch9 c))
    ((Memref.isWhole_whole _).wordExact_slice rfl _ (words_srows r)) ((Memref.isWhole_whole _).wordExact_slice rfl _ (k0_off3_wordsbf16 c)) ⟨⟨rfl, Or.inl rfl⟩, trivial⟩)
@[inherit_doc rsSend] def rsRecv (c : Dev nD) (r : Fin 3) (tot : FVec F S64x2048 .f32) : K F (FVec F S64x2048 .f32) := do
  Prog.lift (.waitDma2 (atPeer cc0_scratch9 c r) (SB.slice (srows 0) (fun _ => rfl)) (RV.slice (peerR c r) (fun _ => rfl))
    ((Memref.isWhole_whole _).wordExact_slice rfl _ (words_srows 0)) ((Memref.isWhole_whole _).wordExact_slice rfl _ (k0_off5_wordsbf16 c r)))
  let v : Vec F S64x2048 .bf16 ← Prog.lift (.load RV (peerR' c r).toLoadRect (View.loadsAt_vmem h_S64x2048))
  pure (k0_pay16 tot v)
@[inherit_doc rsSend] def rsSent (c : Dev nD) (r : Fin 3) : K F PUnit :=
  Prog.lift (.waitDma2 (at3 cc0_scratch8 r) (RV.slice (ownR' c) (fun _ => rfl)) (SB.slice (srows r) (fun _ => rfl))
    ((Memref.isWhole_whole _).wordExact_slice rfl _ (k0_off3_wordsbf16 c)) ((Memref.isWhole_whole _).wordExact_slice rfl _ (words_srows r)))

/-- Exchange the partial sums, and leave the device's own rows of the next activations. -/
def reduce (c : Dev nD) : K F PUnit := do
  rsSend c 0
  rsSend c 1
  rsSend c 2
  let own : Vec F S64x2048 .f32 ← Prog.lift (.load PT (ownR c).toLoadRect (View.loadsAt_vmem h_S64x2048))
  let t0 ← rsRecv c 0 own
  let t1 ← rsRecv c 1 t0
  let t2 ← rsRecv c 2 t1
  rsSent c 0
  rsSent c 1
  rsSent c 2
  putOwn c (k0_pay18 t2)

/-! ## The whole -/

/-- Start the weights, meet the other devices, write the device's own block of x into the activations. -/
def startW : K F PUnit := do
  issueIn 0
  issueOut 0
  issueOut 1
  issueOut 2
  issueOut 3
@[inherit_doc startW] def meet (c : Dev nD) : K F PUnit := do
  semSignalWord (dv c 0) barS 1#32
  semSignalWord (dv c 1) barS 1#32
  semSignalWord (dv c 2) barS 1#32
  semWaitWord barS 3#32
@[inherit_doc startW] def putX (c : Dev nD) : K F PUnit := do
  let x : Vec F S64x2048 .f32 ← Prog.lift (.load xM (Rect.unit (s := S64x2048) ![0, 0] S64x2048.size inb_S64x2048_S64x2048_0_0).toLoadRect (View.loadsAt_vmem h_S64x2048))
  putOwn c (k0_pay2 x)

/-- Layer l, then gathering its result. -/
def layer (c : Dev nD) (l : Fin 3) : K F PUnit := do
  products l
  reduce c
  gather c

/-- The activations, widened, are the result. -/
def finish : K F PUnit := do
  let y : Vec F S256x2048 .bf16 ← Prog.lift (.load XF allR.toLoadRect (View.loadsAt_vmem h_S256x2048))
  let _ : Vec F S256x2048 .f32 ← Prog.lift (.load oM allR.toLoadRect (View.loadsAt_vmem h_S256x2048))
  Prog.lift (.store oM allR (k0_pay1 y) Finset.univ (View.stores_vmem_bits_univ h_S256x2048 rfl) (.inl rfl))

/-- The kernel's body. -/
def prog : K F PUnit := do
  let c : Dev nD ← Prog.lift .deviceId
  startW
  meet c
  putX c
  gather c
  layer c 0
  layer c 1
  layer c 2
  finish

end Cert.Mlp

end
-- ==== Proof.Contents.lean ====
/- What the buffers hold: the weights' tiles, the activations after each layer on all devices, a device's partial sums, and what one
   device sends another of them. -/
module

public import proofs.«01_k».proof.Proof.Prog

@[expose] public section

noncomputable section

namespace Cert.Mlp

open Cert.KernelIdeal Cert.KernelIdeal.Gen
open Idealize.ShloMosaic Idealize.ShloMosaic.TcCoe

variable {F : FTy → Type} [FloatOps F]

/-- The device r + 1 places on, and the one r + 1 places back. -/
def pr (r : Fin 3) (c : Dev nD) : Dev nD := ⟨(c.val + r.val + 1) % 4, Nat.mod_lt _ (by decide)⟩
@[inherit_doc pr] def bk (r : Fin 3) (c : Dev nD) : Dev nD := ⟨(c.val + 3 - r.val) % 4, Nat.mod_lt _ (by decide)⟩

theorem pr_bk (r : Fin 3) (c : Dev nD) : pr r (bk r c) = c := by revert r c; decide
theorem bk_pr (r : Fin 3) (c : Dev nD) : bk r (pr r c) = c := by revert r c; decide
theorem pr_ne (r : Fin 3) (c : Dev nD) : pr r c ≠ c := by revert r c; decide
theorem pr_inj (c : Dev nD) : Function.Injective fun r => pr r c := by revert c; decide
/-- A device and the three others. -/
theorem univ_pr (c : Dev nD) : (Finset.univ : Finset (Dev nD)) = [c, pr 0 c, pr 1 c, pr 2 c].toFinset := by revert c; decide
theorem nodup_pr (c : Dev nD) : [c, pr 0 c, pr 1 c, pr 2 c].Nodup := by revert c; decide
theorem univ_bk : ∀ c : Dev nD, (Finset.univ : Finset (Dev nD)) = [c, bk 0 c, bk 1 c, bk 2 c].toFinset := by decide
theorem nodup_bk : ∀ c : Dev nD, [c, bk 0 c, bk 1 c, bk 2 c].Nodup := by decide

/-! ## Row blocks of 256 rows -/

theorem rows_disj (p q : Fin 4) (h : p ≠ q) : Disjoint (rows p).set (rows q).set :=
  Rect.unit_disjoint 0 (by
    have : p.val ≠ q.val := fun e => h (Fin.ext e)
    show 64 * p.val + 64 ≤ 64 * q.val ∨ 64 * q.val + 64 ≤ 64 * p.val
    omega)

theorem rows_cover : (Finset.univ : Finset (Fin 4)).biUnion (fun q => (rows q).set) = Finset.univ := by
  ext i
  simp only [Finset.mem_biUnion, Finset.mem_univ, true_and, iff_true]
  have h0 : (i 0).val < 256 := (i 0).isLt
  have h1 : (i 1).val < 2048 := (i 1).isLt
  refine ⟨⟨(i 0).val / 64, by omega⟩, Rect.mem_set_unit.mpr (Fin.forall_fin_two.mpr ⟨?_, ?_⟩)⟩
  · show 64 * ((i 0).val / 64) ≤ (i 0).val ∧ (i 0).val < 64 * ((i 0).val / 64) + 64
    omega
  · show 0 ≤ (i 1).val ∧ (i 1).val < 0 + 2048
    omega

/-- Block q of 256 rows; the 256 rows of four blocks. -/
def blk {e : EltTy} (f : Vec F S256x2048 e) (q : Fin 4) : Vec F S64x2048 e := fun i => f ((rows q).emb i)
@[inherit_doc blk] def asm {e : EltTy} (b : Fin 4 → Vec F S64x2048 e) : Vec F S256x2048 e := Rect.glue rows rows_cover b

theorem blk_asm {e : EltTy} (b : Fin 4 → Vec F S64x2048 e) (q : Fin 4) : blk (asm b) q = b q :=
  funext fun i => Rect.glue_emb rows rows_cover rows_disj b q i

/-! ## The weights -/

variable (m : (ℓ : Loc nD τ sig) → Buf (Elt F) ℓ)

/-- Layer l's first weights on a device, its second weights; layers from the third on are one. -/
def wi (c : Dev nD) : ℕ → Vec F S2048x4096 .f32
  | 0 => m ((c : Thread nD τ).loc main_arg1)
  | 1 => m ((c : Thread nD τ).loc main_arg2)
  | _ => m ((c : Thread nD τ).loc main_arg3)
@[inherit_doc wi] def wo (c : Dev nD) : ℕ → Vec F S4096x2048 .f32
  | 0 => m ((c : Thread nD τ).loc main_arg4)
  | 1 => m ((c : Thread nD τ).loc main_arg5)
  | _ => m ((c : Thread nD τ).loc main_arg6)

theorem numel_slot : S512x2048.numel = S1x512x2048.numel := Shape.Squeezes.numel_eq squeezes_S1x512x2048_S512x2048

/-- Tile t of the first weights, of the second weights as a slot holds it. -/
def wV (c : Dev nD) (l : ℕ) (t : Fin 8) : Vec F S2048x512 .f32 := fun i => wi m c l ((cols t).emb i)
@[inherit_doc wV] def bV (c : Dev nD) (l : ℕ) (t : Fin 8) : Vec F S1x512x2048 .f32 :=
  fun i => wo m c l ((tileR t).emb ((Shape.reshapeEquiv numel_slot).symm i))

/-! ## The activations and the sums -/

/-- The sum of the first n tiles' products on the activations X. -/
def accV (c : Dev nD) (l : ℕ) (X : Vec F S256x2048 .bf16) : (n : ℕ) → n ≤ 8 → FVec F S256x2048 .f32
  | 0, _ => k0_pay3
  | n + 1, h => k0_pay4 X (accV c l X n (Nat.le_of_succ_le h)) (wV m c l ⟨n, h⟩) (bV m c l ⟨n, h⟩)

/-- A device's partial sums of layer l. -/
def partV (c : Dev nD) (l : ℕ) (X : Vec F S256x2048 .bf16) : FVec F S256x2048 .f32 := k0_pay45 (accV m c l X 8 (Nat.le_refl 8))

/-- What device s sends device c of them, and device c's own block of the sums. -/
def sentV (s : Dev nD) (l : ℕ) (X : Vec F S256x2048 .bf16) (c : Dev nD) : FVec F S64x2048 .bf16 := k0_pay13 (blk (partV m s l X) c)
@[inherit_doc sentV] def totV (c : Dev nD) (l : ℕ) (X : Vec F S256x2048 .bf16) : FVec F S64x2048 .f32 :=
  k0_pay16 (k0_pay16 (k0_pay16 (blk (partV m c l X) c) (sentV m (pr 0 c) l X c)) (sentV m (pr 1 c) l X c)) (sentV m (pr 2 c) l X c)

/-- A device's block of x as the kernel finds it. -/
def xV (c : Dev nD) : Vec F S64x2048 .f32 := (win0_0.blk (0 : Fin 1)).view.read (Elt F) (m ((c : Thread nD τ).loc main_arg0))

/-- The activations before layer l, the same on all devices: x; then, block by block, each device's own sums. -/
def actV : ℕ → Vec F S256x2048 .bf16
  | 0 => asm fun c => k0_pay2 (xV m c)
  | l + 1 => asm fun c => k0_pay18 (totV m c l (actV l))

/-- The result. -/
def outV : FVec F S256x2048 .f32 := k0_pay1 (actV m 3)

end Cert.Mlp

end
-- ==== Proof.Sched.lean ====
/- The protocol of the four devices. Every semaphore another device touches has rounds; for each round: who adds to it, how much, and
   what the waiter gets.

   - The barrier, one round: one unit from each other device, which gives its activations' rows of the waiter's number.
   - Gathering, four rounds. The receiver's semaphore of the sender's number: the sender's rows of the activations, holding the layer's
     values; before a layer also the sender's buffer for the receiver's sums. The sender's own semaphore: the part of its rows it lent.
   - Reducing, three rounds. The receiver's semaphore of the sender's number: the sender's sums for the receiver, and the sender's
     activations' rows of the receiver's number. The sender's own semaphore: the rows it sent from. -/
module

public import proofs.«01_k».proof.Proof.Contents
public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

/-! ## Resources -/

/-- The rounds of the devices' own semaphores, their duties numbered up to three; beside them the pipeline's rounds and the local
    transfers' counters. -/
abbrev UB : Type := URounds (GSem nD τ sig) (Fin 3)
@[inherit_doc UB] abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: any contents, every semaphore zero. -/
def s₀ : MemSt nD τ sig (Elt F) := ⟨m, fun _ => 0, ρ⟩

/-! ## The semaphores other devices touch -/

/-- The barrier; gathering's semaphores of a device's own sends and of what it receives; reducing's. -/
inductive CI
  | bar | ags (r : Fin 3) | agr (q : Fin 4) | rss (r : Fin 3) | rsr (q : Fin 4)
  deriving DecidableEq

def CI.all : List CI :=
  [.bar, .ags 0, .ags 1, .ags 2, .agr 0, .agr 1, .agr 2, .agr 3, .rss 0, .rss 1, .rss 2, .rsr 0, .rsr 1, .rsr 2, .rsr 3]

theorem CI.mem_all (i : CI) : i ∈ CI.all := by
  cases i with
  | bar => decide
  | ags r => revert r; decide
  | agr r => revert r; decide
  | rss r => revert r; decide
  | rsr r => revert r; decide

instance : Fintype CI := ⟨CI.all.toFinset, fun i => List.mem_toFinset.mpr i.mem_all⟩

def csem : CI → SemLoc sig
  | .bar => .reg barS
  | .ags r => .dma (at3 cc0_scratch6 r)
  | .agr q => .dma (at4 cc0_scratch7 q)
  | .rss r => .dma (at3 cc0_scratch8 r)
  | .rsr q => .dma (at4 cc0_scratch9 q)

abbrev cell (c : Dev nD) (i : CI) : GSem nD τ sig := ((c : Thread nD τ), csem i)

/-- Which of them a semaphore is. -/
def role (sm : SemLoc sig) : Option CI := CI.all.find? fun i => csem i = sm

theorem role_csem : ∀ i, role (csem i) = some i := by decide +kernel
theorem csem_inj : Function.Injective csem := fun i j h => Option.some.inj ((role_csem i).symm.trans ((congrArg role h).trans (role_csem j)))
theorem cell_inj : Function.Injective fun x : Dev nD × CI => cell x.1 x.2 := fun x y h =>
  Prod.ext (congrArg (fun g : GSem nD τ sig => g.1.1) h) (csem_inj (congrArg (fun g : GSem nD τ sig => g.2) h))

/-- The units of a gathering transfer and of a reducing one. -/
abbrev NA : ℕ := (XF.access (rows 0)).dmaCredit
@[inherit_doc NA] abbrev NR : ℕ := (RV.access (rows 0)).dmaCredit
theorem NA_pos : 0 < NA := View.dmaCredit_pos _ (by decide)
theorem NR_pos : 0 < NR := View.dmaCredit_pos _ (by decide)

/-! ## Pieces of the buffers -/

/-- Device c's block q of the activations; of what it receives; block r of what it sends. -/
def xfp (c : Dev nD) (q : Fin 4) (s : PosShare TreeShare) (f : Vec F S256x2048 .bf16) : sProp 𝕄 :=
  (XF.access (rows q)).loc (c : Thread nD τ) ↦[(XF.access (rows q)).set]{s} f
@[inherit_doc xfp] def rvp (c : Dev nD) (q : Fin 4) (f : Vec F S256x2048 .bf16) : sProp 𝕄 :=
  (RV.access (rows q)).loc (c : Thread nD τ) ↦[(RV.access (rows q)).set]{fullShare} f
@[inherit_doc xfp] def sbp (c : Dev nD) (r : Fin 3) (f : Vec F S192x2048 .bf16) : sProp 𝕄 :=
  (SB.access (srows r)).loc (c : Thread nD τ) ↦[(SB.access (srows r)).set]{fullShare} f

/-- The three parts a device's rows are lent in. -/
def sh : Fin 3 → PosShare TreeShare
  | 0 => fullShare.left
  | 1 => fullShare.right.left
  | 2 => fullShare.right.right

/-- The right device n gets from device s to send s its sums of layer k (there are three layers). -/
def giveRV (s n : Dev nD) (k : ℕ) : sProp 𝕄 :=
  if k < 3 then iprop((∃ f, rvp s n f) ∗ reached ER (cell s (.rsr n)) k) else iprop(emp)
/-- The right device n gets from device s to send s its rows of the activations after layer k. -/
def giveXF (s n : Dev nD) (k : ℕ) : sProp 𝕄 := iprop((∃ f, xfp s n fullShare f) ∗ reached ER (cell s (.agr n)) (k + 1))
/-- Device q's sums for device c, come in. -/
def landRV (q c : Dev nD) (k : ℕ) : sProp 𝕄 := iprop(∃ f, ⌜blk f q = sentV m q k (actV m k) c⌝ ∗ rvp c q f)

section Storable
omit [FloatOps F]
instance xfp_storable (c q s f) : BI.Storable (upEmb : UEmb _ 𝕄) (xfp (F := F) c q s f) := by unfold xfp; infer_instance
instance rvp_storable (c q f) : BI.Storable (upEmb : UEmb _ 𝕄) (rvp (F := F) c q f) := by unfold rvp; infer_instance
instance sbp_storable (c r f) : BI.Storable (upEmb : UEmb _ 𝕄) (sbp (F := F) c r f) := by unfold sbp; infer_instance
instance giveRV_storable (s n k) : BI.Storable (upEmb : UEmb _ 𝕄) (giveRV (F := F) s n k) := by unfold giveRV; split <;> infer_instance
instance giveXF_storable (s n k) : BI.Storable (upEmb : UEmb _ 𝕄) (giveXF (F := F) s n k) := by unfold giveXF; infer_instance
end Storable
instance landRV_storable (q c k) : BI.Storable (upEmb : UEmb _ 𝕄) (landRV (F := F) m q c k) := by unfold landRV; infer_instance

/-! ## The schedule -/

def dutiesAt (c : Dev nD) : Option CI → ℕ → Finset (Fin 3)
  | some .bar, k => if k = 0 then Finset.univ else ∅
  | some (.ags _), k => if k < 4 then {0} else ∅
  | some (.agr q), k => if q ≠ c ∧ k < 4 then {0} else ∅
  | some (.rss _), k => if k < 3 then {0} else ∅
  | some (.rsr q), k => if q ≠ c ∧ k < 3 then {0} else ∅
  | none, _ => ∅

def amountAt : Option CI → ℕ
  | some (.ags _) => NA
  | some (.agr _) => NA
  | some (.rss _) => NR
  | some (.rsr _) => NR
  | _ => 1

def payAt (c : Dev nD) : Option CI → ℕ → Fin 3 → sProp 𝕄
  | some .bar, _, r => iprop(∃ f, xfp (bk r c) c fullShare f)
  | some (.ags r), k, _ => xfp c c (sh r) (actV m k)
  | some (.agr q), k, _ => iprop(xfp c q fullShare (actV m k) ∗ giveRV q c k)
  | some (.rss r), _, _ => iprop(∃ f, sbp c r f)
  | some (.rsr q), k, _ => iprop(landRV m q c k ∗ giveXF q c k)
  | none, _, _ => iprop(emp)

theorem amountAt_pos (i : Option CI) : 0 < amountAt i := by
  match i with
  | none => exact Nat.one_pos
  | some .bar => exact Nat.one_pos
  | some (.ags _) => exact NA_pos
  | some (.agr _) => exact NA_pos
  | some (.rss _) => exact NR_pos
  | some (.rsr _) => exact NR_pos

def sched : Rounds.Schedule (GSem nD τ sig) (Fin 3) 𝕄 where
  duties g k := if g.1.2 = .tc then dutiesAt g.1.1 (role g.2) k else ∅
  unitless _ := False
  amount g _ _ := amountAt (role g.2)
  payload g k d := payAt m g.1.1 (role g.2) k d
  amount_pos g _ _ _ := amountAt_pos _

instance sched_storable (g : GSem nD τ sig) (k : ℕ) (d : Fin 3) : BI.Storable (upEmb : UEmb _ 𝕄) ((sched (F := F) m).payload g k d) := by
  show BI.Storable upEmb (payAt m g.1.1 (role g.2) k d)
  match role g.2 with
  | none => unfold payAt; infer_instance
  | some .bar => unfold payAt; infer_instance
  | some (.ags _) => unfold payAt; infer_instance
  | some (.agr _) => unfold payAt; infer_instance
  | some (.rss _) => unfold payAt; infer_instance
  | some (.rsr _) => unfold payAt; infer_instance

section At
variable (c : Dev nD) (i : CI) (k : ℕ)

theorem duties_at : (sched (F := F) m).duties (cell c i) k = dutiesAt c (some i) k := by
  dsimp only [sched]; rw [if_pos rfl, role_csem]
theorem amount_at (d : Fin 3) : (sched (F := F) m).amount (cell c i) k d = amountAt (some i) := by
  dsimp only [sched]; rw [role_csem]
theorem payload_at (d : Fin 3) : (sched (F := F) m).payload (cell c i) k d = payAt m c (some i) k d := by
  dsimp only [sched]; rw [role_csem]

/-- A round with the one duty 0: what it expects, what it gives. -/
theorem expect_one (h : dutiesAt c (some i) k = {0}) : (sched (F := F) m).expect (cell c i) k = amountAt (some i) := by
  unfold Schedule.expect Schedule.amountOf
  rw [duties_at, h, Finset.sum_singleton, amount_at]
theorem rest_one (h : dutiesAt c (some i) k = {0}) :
    bigSep ((sched (F := F) m).duties (cell c i) k \ ∅) (fun d => (sched (F := F) m).payload (cell c i) k d) = payAt m c (some i) k 0 := by
  rw [Finset.sdiff_empty, duties_at, h, bigSep_singleton, payload_at]
theorem mem_one (h : dutiesAt c (some i) k = {0}) : (0 : Fin 3) ∈ (sched (F := F) m).duties (cell c i) k := by
  rw [duties_at, h]; exact Finset.mem_singleton_self _

theorem expect_bar : (sched (F := F) m).expect (cell c .bar) 0 = 3 := by
  unfold Schedule.expect Schedule.amountOf
  rw [duties_at, Finset.sum_congr rfl fun d _ => amount_at m c .bar 0 d, Finset.sum_const]
  rfl
theorem rest_bar :
    bigSep ((sched (F := F) m).duties (cell c .bar) 0 \ ∅) (fun d => (sched (F := F) m).payload (cell c .bar) 0 d)
      = iprop((∃ f, xfp (bk 0 c) c fullShare f) ∗ (∃ f, xfp (bk 1 c) c fullShare f) ∗ (∃ f, xfp (bk 2 c) c fullShare f)) := by
  rw [Finset.sdiff_empty, duties_at, show dutiesAt c (some .bar) 0 = Finset.univ from rfl,
    bigSep_univ_eq_bigSepL [0, 1, 2] (by decide) (by decide), bigSepL_cons_cons, bigSepL_cons_cons, bigSepL_singleton,
    payload_at, payload_at, payload_at]
  rfl
theorem mem_bar (r : Fin 3) : r ∈ (sched (F := F) m).duties (cell c .bar) 0 := by
  rw [duties_at]; exact Finset.mem_univ r

/-- A semaphore's rounds end. -/
def lastOf : CI → ℕ
  | .bar => 1
  | .ags _ => 4
  | .agr q => if q = c then 0 else 4
  | .rss _ => 3
  | .rsr q => if q = c then 0 else 3
theorem duties_end : ∀ k, lastOf c i ≤ k → (sched (F := F) m).duties (cell c i) k = ∅ := by
  intro k hk
  rw [duties_at]
  cases i with
  | bar => exact if_neg (Nat.ne_of_gt hk)
  | ags r => exact if_neg (Nat.not_lt_of_le hk)
  | rss r => exact if_neg (Nat.not_lt_of_le hk)
  | agr q =>
    refine if_neg fun h => ?_
    have e : lastOf c (.agr q) = 4 := if_neg h.1
    omega
  | rsr q =>
    refine if_neg fun h => ?_
    have e : lastOf c (.rsr q) = 3 := if_neg h.1
    omega

end At

theorem d_ags (c : Dev nD) (r : Fin 3) {k : ℕ} (hk : k < 4) : dutiesAt c (some (.ags r)) k = {0} := if_pos hk
theorem d_agr (c : Dev nD) {q : Fin 4} (hq : q ≠ c) {k : ℕ} (hk : k < 4) : dutiesAt c (some (.agr q)) k = {0} := if_pos ⟨hq, hk⟩
theorem d_rss (c : Dev nD) (r : Fin 3) {k : ℕ} (hk : k < 3) : dutiesAt c (some (.rss r)) k = {0} := if_pos hk
theorem d_rsr (c : Dev nD) {q : Fin 4} (hq : q ≠ c) {k : ℕ} (hk : k < 3) : dutiesAt c (some (.rsr q)) k = {0} := if_pos ⟨hq, hk⟩

/-! ## What the devices owe, in the order they pay it; the levels of the waits -/

/-- The three signals; gathering k's three transfers; reducing k's. The second number is the level. -/
def payBar (c : Dev nD) : List (Pay nD τ sig) := [(cell (pr 0 c) .bar, 1, 1), (cell (pr 1 c) .bar, 1, 1), (cell (pr 2 c) .bar, 1, 1)]
@[inherit_doc payBar] def payAG (c : Dev nD) (k : ℕ) : List (Pay nD τ sig) :=
  [(cell (pr 0 c) (.agr c), 2 + 2 * k, NA), (cell (pr 1 c) (.agr c), 2 + 2 * k, NA), (cell (pr 2 c) (.agr c), 2 + 2 * k, NA)]
@[inherit_doc payBar] def payRS (c : Dev nD) (k : ℕ) : List (Pay nD τ sig) :=
  [(cell (pr 0 c) (.rsr c), 3 + 2 * k, NR), (cell (pr 1 c) (.rsr c), 3 + 2 * k, NR), (cell (pr 2 c) (.rsr c), 3 + 2 * k, NR)]

/-- What is owed with n layers to go. -/
def due (c : Dev nD) : ℕ → List (Pay nD τ sig)
  | 0 => []
  | n + 1 => payRS c (2 - n) ++ (payAG c (3 - n) ++ due c n)

/-- What is owed at launch. -/
def dueAll (c : Dev nD) : List (Pay nD τ sig) := payBar c ++ (payAG c 0 ++ due c 3)

/-- Every payment of l is to a device's main core, above level i. -/
def Above (i : ℕ) (l : List (Pay nD τ sig)) : Prop := ∀ x ∈ l, x.1.1.2 = .tc ∧ i < x.2.1 ∧ x.2.1 < 10

theorem Above.nil (i : ℕ) : Above i [] := fun _ h => absurd h List.not_mem_nil
theorem Above.app {i : ℕ} {l l' : List (Pay nD τ sig)} (h : Above i l) (h' : Above i l') : Above i (l ++ l') := fun x hx =>
  (List.mem_append.mp hx).elim (h x) (h' x)
theorem Above.mono {i j : ℕ} {l : List (Pay nD τ sig)} (h : Above i l) (hij : j ≤ i) : Above j l := fun x hx =>
  ⟨(h x hx).1, Nat.lt_of_le_of_lt hij (h x hx).2.1, (h x hx).2.2⟩
theorem Above.three {i j : ℕ} (hi : i < j) (hj : j < 10) (a b d : Dev nD) (u v w : CI) (n : ℕ) :
    Above i [(cell a u, j, n), (cell b v, j, n), (cell d w, j, n)] := by
  intro x hx
  simp only [List.mem_cons, List.not_mem_nil, or_false] at hx
  rcases hx with rfl | rfl | rfl <;> exact ⟨rfl, hi, hj⟩
theorem above_AG (c : Dev nD) {i k : ℕ} (hi : i < 2 + 2 * k) (hk : k < 4) : Above i (payAG c k) := Above.three hi (by omega) _ _ _ _ _ _ _
theorem above_RS (c : Dev nD) {i k : ℕ} (hi : i < 3 + 2 * k) (hk : k < 3) : Above i (payRS c k) := Above.three hi (by omega) _ _ _ _ _ _ _
theorem above_due (c : Dev nD) : ∀ n ≤ 3, Above (8 - 2 * n) (due c n)
  | 0, _ => Above.nil _
  | n + 1, h => (above_RS c (by omega) (by omega)).app ((above_AG c (by omega) (by omega)).app ((above_due c n (by omega)).mono (by omega)))

def L (g : GSem nD τ sig) : Finset ℕ := if g.1.2 = .tc then Finset.range 10 else ∅
def lv (_ : GSem nD τ sig) (i : ℕ) : ℕ := i
theorem L_tc (g : GSem nD τ sig) (h : g.1.2 = .tc) : L g = Finset.range 10 := if_pos h
theorem L_of_ne (g : GSem nD τ sig) (h : g.1.2 ≠ .tc) : L g = ∅ := if_neg h

/-- A wait at a level below all that is owed. -/
theorem mayWait (c : Dev nD) (sm : SemLoc sig) {i : ℕ} (hi : i < 10) {l : List (Pay nD τ sig)} (hl : Above i l) :
    (levAts L lv : sProp 𝕄) ⊢ MayWait (c : Thread nD τ) sm i (tallyL l) :=
  MayOwe.of_cut (L := L) (lev := lv) i
    (fun p hp => by rw [Finset.mem_singleton.mp hp]; rw [L_tc _ rfl]; exact Finset.mem_range.mpr hi)
    (fun g u hg => by
      obtain ⟨x, hx, rfl, rfl⟩ := TalkSites.tallyL_pos hg
      rw [L_tc _ (hl x hx).1]; exact Finset.mem_range.mpr (hl x hx).2.2)
    (fun p hp => by rw [Finset.mem_singleton.mp hp]; exact Nat.le_refl i)
    (fun g u hg => by
      obtain ⟨x, hx, rfl, rfl⟩ := TalkSites.tallyL_pos hg
      exact (hl x hx).2.1)

end Cert.Mlp

end
-- ==== Proof.Talk.lean ====
/- One lemma for each step of the conversation: a transfer sent, a wait, a block of the activations written. -/
module

public import proofs.«01_k».proof.Proof.Sched
public import Idealize.ShloMosaic.Lib.ViewIndex

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A piece of the kernel on device c ends with Q. -/
abbrev WP {α : Type} (c : Dev nD) (p : K F α) (Q : α → sProp 𝕄) : sProp 𝕄 :=
  wp frame (wpE (defs₀ (F := F)) 𝒱₀ (c : Thread nD τ) none) Set.univ p Q

theorem WP_bind {α β : Type} (c : Dev nD) (p : K F α) (k : α → K F β) (Q : β → sProp 𝕄) : WP c (p >>= k) Q = WP c p fun a => WP c (k a) Q :=
  wp_bind _ _ _ _ _ _
theorem WP_pure {α : Type} (c : Dev nD) (a : α) (Q : α → sProp 𝕄) : Q a ⊢ WP c (pure a : K F α) Q := by
  unfold WP; rw [wp_pure]; exact fupd_intro

/-- What device c owes, whatever it has waited for. -/
def owe (c : Dev nD) (l : List (Pay nD τ sig)) : sProp 𝕄 := iprop(∃ W, owes (c : Thread nD τ) (tallyL l) W)

/-! ## What all devices share -/

/-- Every semaphore's protocol, under some name each; the start of each; the levels. -/
def Ctx (N : Dev nD × CI → ℕ) : sProp 𝕄 :=
  iprop((bigSep Finset.univ fun x : Dev nD × CI => cellInv ER (sched m) (N x) (cell x.1 x.2))
    ∗ (bigSep Finset.univ fun x : Dev nD × CI => reached ER (cell x.1 x.2) 0) ∗ levAts L lv)

instance Ctx_persistent (N : Dev nD × CI → ℕ) : BI.Persistent (Ctx m N) := by unfold Ctx; infer_instance

variable (N : Dev nD × CI → ℕ)

theorem Ctx.inv (c : Dev nD) (i : CI) : Ctx m N ⊢ cellInv ER (sched m) (N (c, i)) (cell c i) := by
  unfold Ctx
  exact sep_elim_left.trans (bigSep_elim (Finset.mem_univ (c, i)) (Φ := fun x : Dev nD × CI => cellInv ER (sched m) (N x) (cell x.1 x.2)))
theorem Ctx.reach (c : Dev nD) (i : CI) : Ctx m N ⊢ reached ER (cell c i) 0 := by
  unfold Ctx
  exact sep_elim_right.trans (sep_elim_left.trans (bigSep_elim (Finset.mem_univ (c, i)) (Φ := fun x : Dev nD × CI => (reached ER (cell x.1 x.2) 0 : sProp 𝕄))))
theorem Ctx.may (c : Dev nD) (sm : SemLoc sig) {i : ℕ} (hi : i < 10) {l : List (Pay nD τ sig)} (hl : Above i l) :
    Ctx m N ⊢ MayWait (c : Thread nD τ) sm i (tallyL l) := by
  unfold Ctx
  exact sep_elim_right.trans (sep_elim_right.trans (mayWait c sm hi hl))

/-! ## The kernel's own numbers -/

theorem dv_eq (c : Dev nD) (r : Fin 3) : dv c r = pr r c := by
  match r with
  | 0 => exact Fin.ext (k0_dev1_eq c)
  | 1 => exact Fin.ext (k0_dev2_eq c)
  | 2 => exact Fin.ext (k0_dev3_eq c)

theorem off1_eq (c : Dev nD) : k0_off1 c = ![64 * c.val, 0] := k0_off1_eq c
theorem off3_eq (c : Dev nD) : k0_off3 c = ![64 * c.val, 0] := k0_off3_eq c
theorem off5_eq (c : Dev nD) (r : Fin 3) : k0_off5 c (BitVec.ofNat 32 (1 + r.val)) = ![64 * (pr r c).val, 0] := k0_off5_eq c r
theorem off6_eq (c : Dev nD) (r : Fin 3) : k0_off6 c (BitVec.ofNat 32 (1 + r.val)) = ![64 * (pr r c).val, 0] := k0_off6_eq c r
theorem atOwn7 (c : Dev nD) : atOwn cc0_scratch7 c = at4 cc0_scratch7 c := by revert c; decide +kernel
theorem atOwn9 (c : Dev nD) : atOwn cc0_scratch9 c = at4 cc0_scratch9 c := by revert c; decide +kernel
theorem atPeer7 (c : Dev nD) (r : Fin 3) : atPeer cc0_scratch7 c r = at4 cc0_scratch7 (pr r c) := by revert r c; decide +kernel
theorem atPeer9 (c : Dev nD) (r : Fin 3) : atPeer cc0_scratch9 c r = at4 cc0_scratch9 (pr r c) := by revert r c; decide +kernel

/-! ## Points-to by what a view reads -/

section Read
omit [FloatOps F]
variable {sp : Space} {s : Shape} {e : EltTy}

theorem agree_of_read (v : View sig .tc sp s e) {f g : v.ty.Contents (Elt F)} (h : v.read (Elt F) f = v.read (Elt F) g) : ∀ i ∈ v.set, f i = g i := by
  intro i hi
  obtain ⟨x, -, rfl⟩ := Finset.mem_map.mp hi
  exact View.eq_of_read_eq (congrFun h x)

/-- Contents a view reads alike are one to who holds its elements. -/
theorem pts_congr (c : Dev nD) (v : View sig .tc sp s e) (q : PosShare TreeShare) {f g : Buf (Elt F) (v.loc (c : Thread nD τ))}
    (h : v.read (Elt F) f = v.read (Elt F) g) :
    (v.loc (c : Thread nD τ) ↦[v.set]{q} f : sProp 𝕄) = (v.loc (c : Thread nD τ) ↦[v.set]{q} g) :=
  pointsTo_congr (agree_of_read v h)

end Read

/-! ## Waits -/

/-- The wait for the one transfer of a round. -/
theorem wait_one (c : Dev nD) (i : CI) (k : ℕ) (h : dutiesAt c (some i) k = {0}) (ix : ℕ) (hix : ix < 10) {l : List (Pay nD τ sig)}
    (hl : Above ix l) (sem : DmaSem sig) (hs : SemLoc.dma sem = csem i) {sp sp' : Space} {s s' : Shape} {e e' : EltTy}
    (src : Memref sig .tc sp s e) (dst : Memref sig .tc sp' s' e') (hsrc : src.view.WordExact) (hdst : dst.view.WordExact)
    (hN : dst.view.dmaCredit = amountAt (some i)) (Q : PUnit → sProp 𝕄) :
    iprop(Ctx m N ∗ cred (tallyAt (cell c i) ix (amountAt (some i))) ∗ atPos ER (cell c i) k ∅ 0 ∗ owe c l)
      ⊢ iprop(((owe c l ∗ atPos ER (cell c i) (k + 1) ∅ 0 ∗ reached ER (cell c i) (k + 1) ∗ payAt m c (some i) k 0) -∗ Q ⟨⟩)
          -∗ WP c (Prog.lift (.waitDma2 sem src dst hsrc hdst)) Q) := by
  have he := expect_one m c i k h
  have hr := rest_one m c i k h
  unfold cell at he hr ⊢
  have hc := Ctx.inv m N c i
  unfold cell at hc
  rw [← hs] at he hr hc ⊢
  rw [← hr, ← hN]
  unfold owe
  iintro ⟨#HC, Hcr, Hat, ⟨%W, HO⟩⟩ Hk
  simp only [Prog.lift]
  iapply (Rounds.wp_wait_rest_token 𝒱₀ ER (sched m) (c : Thread nD τ) none (κ := N (c, i))
      (wpE_waitDma2_eq 𝒱₀ (c : Thread nD τ) none Set.univ) (Set.mem_univ _) ix (O := tallyL l) (W := W) (R := k) (m := 0) (T := ∅)
      (by rw [Nat.zero_add, he]; exact hN)) $$ [Hcr HO Hat]
  · isplitr; · iapply hc; iexact HC
    isplitl [Hcr]; · iexact Hcr
    isplitl [HO]; · iexact HO
    isplitr; · iapply (Ctx.may m N c _ hix hl); iexact HC
    iexact Hat
  iintro ⟨HO, Hat, Hre, Hp⟩
  rw [wp_ret]; imodintro
  iapply Hk
  isplitl [HO]; · iexists _; iexact HO
  isplitl [Hat]; · iexact Hat
  isplitl [Hre]; · iexact Hre
  iexact Hp

/-! ## Gathering -/

theorem agRecv_wp (c : Dev nD) (r : Fin 3) (k : ℕ) (hk : k < 4) {l : List (Pay nD τ sig)} (hl : Above (2 + 2 * k) l) (Q : PUnit → sProp 𝕄) :
    iprop(Ctx m N ∗ cred (tallyAt (cell c (.agr (pr r c))) (2 + 2 * k) NA) ∗ atPos ER (cell c (.agr (pr r c))) k ∅ 0 ∗ owe c l)
      ⊢ iprop(((owe c l ∗ atPos ER (cell c (.agr (pr r c))) (k + 1) ∅ 0 ∗ reached ER (cell c (.agr (pr r c))) (k + 1)
            ∗ xfp c (pr r c) fullShare (actV m k) ∗ giveRV (pr r c) c k) -∗ Q ⟨⟩) -∗ WP c (agRecv c r) Q) :=
  wait_one m N c (.agr (pr r c)) k (d_agr c (pr_ne r c) hk) (2 + 2 * k) (by omega) hl _ (congrArg SemLoc.dma (atPeer7 c r)) _ _ _ _ rfl Q

theorem agSent_wp (c : Dev nD) (r : Fin 3) (k : ℕ) (hk : k < 4) {l : List (Pay nD τ sig)} (hl : Above 0 l) (Q : PUnit → sProp 𝕄) :
    iprop(Ctx m N ∗ cred (tallyAt (cell c (.ags r)) 0 NA) ∗ atPos ER (cell c (.ags r)) k ∅ 0 ∗ owe c l)
      ⊢ iprop(((owe c l ∗ atPos ER (cell c (.ags r)) (k + 1) ∅ 0 ∗ reached ER (cell c (.ags r)) (k + 1)
            ∗ xfp c c (sh r) (actV m k)) -∗ Q ⟨⟩) -∗ WP c (agSent c r) Q) :=
  wait_one m N c (.ags r) k (d_ags c r hk) 0 (by omega) hl _ rfl _ _ _ _ rfl Q

theorem xfp_slice (c q : Dev nD) (s : PosShare TreeShare) (f : Vec F S256x2048 .bf16)
    (inb : ∀ a, (![64 * q.val, 0] : Fin 2 → ℕ) a + S64x2048.size a ≤ S256x2048.size a) :
    (xfp c q s f : sProp 𝕄) ⊢ ((XF.slice (Rect.unit (s := S256x2048) ![64 * q.val, 0] S64x2048.size inb) (fun _ => rfl)).view.loc (c : Thread nD τ)
      ↦[(XF.slice (Rect.unit (s := S256x2048) ![64 * q.val, 0] S64x2048.size inb) (fun _ => rfl)).view.set]{s} f) := BI.Entails.refl _

/-- Sending the device's own rows to device n. -/
theorem send_ag (c n : Dev nD) (r : Fin 3) (k : ℕ) (hk : k < 4) (hn : n = pr r c) {off : Fin 2 → ℕ} (hoff : off = ![64 * c.val, 0])
    (inb : ∀ a, off a + S64x2048.size a ≤ S256x2048.size a) (sR : DmaSem sig) (hR : sR = at4 cc0_scratch7 c) {l : List (Pay nD τ sig)}
    {hsc : (XF.slice (Rect.unit (s := S256x2048) off S64x2048.size inb) (fun _ => rfl) : Memref sig (Dev.tc n : Thread nD τ).2.kind .vmem _ .bf16).view.ref.isScScratch = false}
    {hsrc : (XF.slice (Rect.unit (s := S256x2048) off S64x2048.size inb) (fun _ => rfl)).view.WordExact}
    {hdst : (XF.slice (Rect.unit (s := S256x2048) off S64x2048.size inb) (fun _ => rfl)).view.WordExact}
    {hsem : DmaTarget.Typed .vmem (.dma sR) (.remote (Dev.tc n : Thread nD τ) (XF.slice (Rect.unit (s := S256x2048) off S64x2048.size inb) (fun _ => rfl)) (.dma (at3 cc0_scratch6 r)) hsc)}
    (Q : PUnit → sProp 𝕄) :
    iprop(Ctx m N ∗ xfp c c (sh r) (actV m k) ∗ (∃ f, xfp (pr r c) c fullShare f) ∗ giveRV c (pr r c) k
        ∗ dutyTok ER (cell c (.ags r)) k 0 ∗ reached ER (cell c (.ags r)) k
        ∗ dutyTok ER (cell (pr r c) (.agr c)) k 0 ∗ reached ER (cell (pr r c) (.agr c)) k ∗ owe c ((cell (pr r c) (.agr c), 2 + 2 * k, NA) :: l))
      ⊢ iprop(((cred (tallyAt (cell c (.ags r)) 0 NA) ∗ owe c l) -∗ Q ⟨⟩)
          -∗ WP c (Prog.lift (.enqueueDma (XF.slice (Rect.unit (s := S256x2048) off S64x2048.size inb) (fun _ => rfl))
              (.remote (Dev.tc n : Thread nD τ) (XF.slice (Rect.unit (s := S256x2048) off S64x2048.size inb) (fun _ => rfl)) (.dma (at3 cc0_scratch6 r)) hsc)
              (.dma sR) hsrc hdst hsem)) Q) := by
  subst hoff hn hR
  unfold owe
  iintro ⟨#HC, Hs, ⟨%fd, Hd⟩, Hg, Ht1, Hr1, Ht2, Hr2, ⟨%W, HO⟩⟩ Hk
  simp only [Prog.lift]
  iapply (Rounds.wp_send_pointsTo_with 𝒱₀ ER (sched m) (c : Thread nD τ) none (κ₁ := N (c, .ags r)) (κ₂ := N (pr r c, .agr c))
      (r₁ := k) (r₂ := k) (d₁ := 0) (d₂ := 0) (fd := fd) (fs := actV m k) (q := sh r) (F := giveRV c (pr r c) k)
      (mem_one m c (.ags r) k (d_ags c r hk)) (mem_one m (pr r c) (.agr c) k (d_agr (pr r c) (pr_ne r c).symm hk))
      (2 + 2 * k) 0 NA rfl (amount_at m c (.ags r) k 0) (amount_at m (pr r c) (.agr c) k 0) (tallyL l)
      (add_comm _ _) (W := W)
      (by rw [payload_at m c (.ags r) k 0]; exact BI.Entails.refl _)
      (by
        rw [payload_at m (pr r c) (.agr c) k 0]
        exact sep_mono_left (Entails.of_eq (pts_congr (pr r c) (XF.access (rows c)) fullShare (View.read_write_univ _ _)))))
    $$ [Hs Hd Hg Ht1 Hr1 Ht2 Hr2 HO]
  · isplitr; · iapply (Ctx.inv m N c (.ags r)); iexact HC
    isplitr; · iapply (Ctx.inv m N (pr r c) (.agr c)); iexact HC
    isplitl [Hs]; · iapply (xfp_slice (F := F) c c (sh r) (actV m k) inb); iexact Hs
    isplitl [Hd Hg]
    · isplitl [Hd]; · iapply (xfp_slice (F := F) (pr r c) c fullShare fd inb); iexact Hd
      iexact Hg
    isplitl [HO]; · iexact HO
    isplitl [Ht1]; · iexact Ht1
    isplitl [Hr1]; · iexact Hr1
    isplitl [Ht2]; · iexact Ht2
    iexact Hr2
  iintro ⟨Hcr, HO⟩
  rw [wp_ret]; imodintro
  iapply Hk
  isplitl [Hcr]; · iexact Hcr
  iexists _; iexact HO

theorem agSend_wp (c : Dev nD) (r : Fin 3) (k : ℕ) (hk : k < 4) {l : List (Pay nD τ sig)} (Q : PUnit → sProp 𝕄) :
    iprop(Ctx m N ∗ xfp c c (sh r) (actV m k) ∗ (∃ f, xfp (pr r c) c fullShare f) ∗ giveRV c (pr r c) k
        ∗ dutyTok ER (cell c (.ags r)) k 0 ∗ reached ER (cell c (.ags r)) k
        ∗ dutyTok ER (cell (pr r c) (.agr c)) k 0 ∗ reached ER (cell (pr r c) (.agr c)) k ∗ owe c ((cell (pr r c) (.agr c), 2 + 2 * k, NA) :: l))
      ⊢ iprop(((cred (tallyAt (cell c (.ags r)) 0 NA) ∗ owe c l) -∗ Q ⟨⟩) -∗ WP c (agSend c r) Q) :=
  send_ag m N c (dv c r) r k hk (dv_eq c r) (off3_eq c) (k0_off3_inb c) _ (atOwn7 c) Q

end Cert.Mlp

end
-- ==== Proof.Steps.lean ====
/- The other steps of the conversation: the barrier, a block of sums sent and received, loads and stores of blocks. -/
module

public import proofs.«01_k».proof.Proof.Talk

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-- Device c's buffer of partial sums. -/
def ptp (c : Dev nD) (f : Vec F S256x2048 .f32) : sProp 𝕄 := PT.view.loc (c : Thread nD τ) ↦{fullShare} f

/-! ## Blocks loaded and stored -/

theorem read_pt (f : Vec F S256x2048 .f32) (q : Fin 4) : (PT.access (rows q)).read (Elt F) f = blk f q := rfl
theorem read_rv (f : Vec F S256x2048 .bf16) (q : Fin 4) : (RV.access (rows q)).read (Elt F) f = blk f q := rfl

theorem load_pt (c q : Dev nD) (f : Vec F S256x2048 .f32) {off : Fin 2 → ℕ} (hoff : off = ![64 * q.val, 0])
    (inb : ∀ a, off a + S64x2048.size a ≤ S256x2048.size a)
    {hl : PT.view.LoadsAt (Rect.unit (s := S256x2048) off S64x2048.size inb).toLoadRect} (Q : Vec F S64x2048 .f32 → sProp 𝕄) :
    ptp c f ⊢ iprop((ptp c f -∗ Q (blk f q)) -∗ WP c (Prog.lift (.load PT (Rect.unit (s := S256x2048) off S64x2048.size inb).toLoadRect hl)) Q) := by
  subst hoff
  unfold ptp
  iintro H Hk
  simp only [Prog.lift]
  iapply (wp_load_rect 𝒱₀ (c : Thread nD τ) none Set.univ (m := PT) (r := rows q) (S := Finset.univ) (q := fullShare) (f := f) (Finset.subset_univ _)) $$ H
  iintro H
  rw [wp_ret, read_pt]; imodintro
  iapply Hk; iexact H

theorem load_rv (c q : Dev nD) (f : Vec F S256x2048 .bf16) {off : Fin 2 → ℕ} (hoff : off = ![64 * q.val, 0])
    (inb : ∀ a, off a + S64x2048.size a ≤ S256x2048.size a)
    {hl : RV.view.LoadsAt (Rect.unit (s := S256x2048) off S64x2048.size inb).toLoadRect} (Q : Vec F S64x2048 .bf16 → sProp 𝕄) :
    rvp c q f ⊢ iprop((rvp c q f -∗ Q (blk f q)) -∗ WP c (Prog.lift (.load RV (Rect.unit (s := S256x2048) off S64x2048.size inb).toLoadRect hl)) Q) := by
  subst hoff
  unfold rvp
  iintro H Hk
  simp only [Prog.lift]
  iapply (wp_load_rect 𝒱₀ (c : Thread nD τ) none Set.univ (m := RV) (r := rows q) (q := fullShare) (f := f) (Finset.Subset.refl _)) $$ H
  iintro H
  rw [wp_ret, read_rv]; imodintro
  iapply Hk; iexact H

theorem put_own (c : Dev nD) (f g : Vec F S256x2048 .bf16) (v : FVec F S64x2048 .bf16) (hg : blk g c = v) {off : Fin 2 → ℕ} (hoff : off = ![64 * c.val, 0])
    (inb : ∀ a, off a + S64x2048.size a ≤ S256x2048.size a)
    {hl : XF.view.LoadsAt (Rect.unit (s := S256x2048) off S64x2048.size inb).toLoadRect}
    {hx : (XF.access (Rect.unit (s := S256x2048) off S64x2048.size inb)).Stores Finset.univ} {hm} (Q : PUnit → sProp 𝕄) :
    (xfp c c fullShare f : sProp 𝕄) ⊢ iprop((xfp c c fullShare g -∗ Q ⟨⟩)
      -∗ WP c (Prog.lift (.load XF (Rect.unit (s := S256x2048) off S64x2048.size inb).toLoadRect hl)) fun _ : Vec F S64x2048 .bf16 =>
          WP c (Prog.lift (.store XF (Rect.unit (s := S256x2048) off S64x2048.size inb) v Finset.univ hx hm)) Q) := by
  subst hoff
  unfold xfp
  iintro H Hk
  simp only [Prog.lift]
  iapply (wp_load_rect 𝒱₀ (c : Thread nD τ) none Set.univ (m := XF) (r := rows c) (q := fullShare) (f := f) (Finset.Subset.refl _)) $$ H
  iintro H
  rw [wp_ret]; imodintro
  iapply (wp_store 𝒱₀ (c : Thread nD τ) none Set.univ (m := XF) (r := rows c) (w := v) (Mk := Finset.univ) (f := f)
    (S := (XF.access (rows c)).set) (Finset.Subset.refl _)) $$ H
  iintro H
  rw [wp_ret]; imodintro
  iapply Hk
  iapply (Entails.of_eq (pts_congr c (XF.access (rows c)) fullShare ((View.read_write_univ _ _).trans hg.symm)))
  iexact H

theorem putOwn_wp (c : Dev nD) (g : Vec F S256x2048 .bf16) (v : FVec F S64x2048 .bf16) (hg : blk g c = v) (Q : PUnit → sProp 𝕄) :
    iprop(∃ f, xfp c c fullShare f) ⊢ iprop((xfp c c fullShare g -∗ Q ⟨⟩) -∗ WP c (putOwn c v) Q) := by
  iintro ⟨%f, H⟩
  simp only [putOwn, WP_bind]
  iapply (put_own c f g v hg (off1_eq c) (k0_off1_inb c) Q) $$ H

/-! ## The barrier -/

theorem bar_pay (c : Dev nD) (r : Fin 3) :
    iprop(∃ f, xfp c (pr r c) fullShare f) ⊢ (sched (F := F) m).payload ((pr r c : Thread nD τ), SemLoc.reg barS) 0 r := by
  refine BI.Entails.trans ?_ (Entails.of_eq (payload_at m (pr r c) .bar 0 r).symm)
  show _ ⊢ iprop(∃ f, xfp (bk r (pr r c)) (pr r c) fullShare f)
  rw [bk_pr]
theorem bar_rest (c : Dev nD) :
    bigSep ((sched (F := F) m).duties ((c : Thread nD τ), SemLoc.reg barS) 0 \ ∅) (fun d => (sched (F := F) m).payload ((c : Thread nD τ), SemLoc.reg barS) 0 d)
      ⊢ iprop((∃ f, xfp (bk 0 c) c fullShare f) ∗ (∃ f, xfp (bk 1 c) c fullShare f) ∗ (∃ f, xfp (bk 2 c) c fullShare f)) :=
  Entails.of_eq (rest_bar m c)

theorem signal_wp (c n : Dev nD) (r : Fin 3) (hn : n = pr r c) {l : List (Pay nD τ sig)} (Q : PUnit → sProp 𝕄) :
    iprop(Ctx m N ∗ (∃ f, xfp c (pr r c) fullShare f) ∗ dutyTok ER (cell (pr r c) .bar) 0 r ∗ owe c ((cell (pr r c) .bar, 1, 1) :: l))
      ⊢ iprop((owe c l -∗ Q ⟨⟩) -∗ WP c (semSignalWord n barS 1#32) Q) := by
  subst hn
  unfold owe
  iintro ⟨#HC, Hx, Ht, ⟨%W, HO⟩⟩ Hk
  simp only [semSignalWord]
  iapply (Rounds.wp_signal 𝒱₀ ER (sched m) (c : Thread nD τ) none (dst := (pr r c : Thread nD τ)) (κ := N (pr r c, .bar))
      (d := r) (mem_bar m (pr r c) r) ((amount_at m (pr r c) .bar 0 r).trans (by decide)) 1 (tallyL l) (add_comm _ _)) $$ [HO Ht Hx]
  · isplitr; · iapply (Ctx.inv m N (pr r c) .bar); iexact HC
    isplitl [HO]; · iexact HO
    isplitl [Ht]; · iexact Ht
    isplitl [Hx]
    · iapply (bar_pay m c r); iexact Hx
    · iapply (Ctx.reach m N (pr r c) .bar); iexact HC
  iintro HO
  rw [wp_ret]; imodintro
  iapply Hk
  iexists _; iexact HO

theorem barWait_wp (c : Dev nD) {l : List (Pay nD τ sig)} (hl : Above 1 l) (Q : PUnit → sProp 𝕄) :
    iprop(Ctx m N ∗ cred (tallyAt (cell c .bar) 1 3) ∗ atPos ER (cell c .bar) 0 ∅ 0 ∗ owe c l)
      ⊢ iprop(((owe c l ∗ atPos ER (cell c .bar) 1 ∅ 0 ∗ (∃ f, xfp (bk 0 c) c fullShare f) ∗ (∃ f, xfp (bk 1 c) c fullShare f)
            ∗ (∃ f, xfp (bk 2 c) c fullShare f)) -∗ Q ⟨⟩) -∗ WP c (semWaitWord barS 3#32) Q) := by
  unfold owe
  iintro ⟨#HC, Hcr, Hat, ⟨%W, HO⟩⟩ Hk
  simp only [semWaitWord]
  iapply (Rounds.wp_wait_rest_token 𝒱₀ ER (sched m) (c : Thread nD τ) none (κ := N (c, .bar))
      (wpE_semWait_eq 𝒱₀ (c : Thread nD τ) none Set.univ) (Set.mem_univ _) 1 (O := tallyL l) (W := W) (R := 0) (m := 0) (T := ∅)
      (by rw [Nat.zero_add]; exact (show _ = 3 by decide).trans (expect_bar m c).symm)) $$ [Hcr HO Hat]
  · isplitr; · iapply (Ctx.inv m N c .bar); iexact HC
    isplitl [Hcr]; · iexact Hcr
    isplitl [HO]; · iexact HO
    isplitr; · iapply (Ctx.may m N c _ (by decide) hl); iexact HC
    iexact Hat
  iintro ⟨HO, Hat, -, Hp⟩
  ihave Hp := (bar_rest m c) $$ Hp
  rw [wp_ret]; imodintro
  iapply Hk
  isplitl [HO]; · iexists _; iexact HO
  isplitl [Hat]; · iexact Hat
  iexact Hp

/-! ## Reducing -/

/-- What device c's block r of its sends is to hold in layer k. -/
def sbHolds (c : Dev nD) (r : Fin 3) (k : ℕ) : sProp 𝕄 :=
  iprop(∃ f, ⌜(SB.access (srows r)).read (Elt F) f = sentV m c k (actV m k) (pr r c)⌝ ∗ sbp c r f)

theorem sbp_slice (c : Dev nD) (r : Fin 3) (f : Vec F S192x2048 .bf16) :
    (sbp c r f : sProp 𝕄) ⊢ ((SB.slice (srows r) (fun _ => rfl)).view.loc (c : Thread nD τ) ↦[(SB.slice (srows r) (fun _ => rfl)).view.set]{fullShare} f) :=
  BI.Entails.refl _
theorem rvp_slice (c q : Dev nD) (f : Vec F S256x2048 .bf16)
    (inb : ∀ a, (![64 * q.val, 0] : Fin 2 → ℕ) a + S64x2048.size a ≤ S256x2048.size a) :
    (rvp c q f : sProp 𝕄) ⊢ ((RV.slice (Rect.unit (s := S256x2048) ![64 * q.val, 0] S64x2048.size inb) (fun _ => rfl)).view.loc (c : Thread nD τ)
      ↦[(RV.slice (Rect.unit (s := S256x2048) ![64 * q.val, 0] S64x2048.size inb) (fun _ => rfl)).view.set]{fullShare} f) := BI.Entails.refl _

theorem landRV_intro (q c : Dev nD) (k : ℕ) (f : Vec F S256x2048 .bf16) (h : blk f q = sentV m q k (actV m k) c) : rvp c q f ⊢ landRV m q c k := by
  unfold landRV
  iintro H
  iexists f
  isplitr; · ipureintro; exact h
  iexact H

theorem landed (q c : Dev nD) (k : ℕ) (fd : Vec F S256x2048 .bf16) (w : Vec F S64x2048 .bf16)
    (inb : ∀ a, (![64 * q.val, 0] : Fin 2 → ℕ) a + S64x2048.size a ≤ S256x2048.size a) (h : w = sentV m q k (actV m k) c) :
    ((RV.slice (Rect.unit (s := S256x2048) ![64 * q.val, 0] S64x2048.size inb) (fun _ => rfl)).view.loc (c : Thread nD τ)
      ↦[(RV.slice (Rect.unit (s := S256x2048) ![64 * q.val, 0] S64x2048.size inb) (fun _ => rfl)).view.set]{fullShare}
        (RV.slice (Rect.unit (s := S256x2048) ![64 * q.val, 0] S64x2048.size inb) (fun _ => rfl)).view.write (Elt F) fd w Finset.univ) ⊢ landRV m q c k :=
  (Entails.of_eq (pts_congr c (RV.access (rows q)) fullShare ((View.read_write_univ _ _).trans (blk_asm (fun _ => w) q).symm))).trans
    (landRV_intro m q c k (asm fun _ => w) ((blk_asm (fun _ => w) q).trans h))
theorem sbp_ex (c : Dev nD) (r : Fin 3) (k : ℕ) (f : Vec F S192x2048 .bf16) :
    ((SB.slice (srows r) (fun _ => rfl)).view.loc (c : Thread nD τ) ↦[(SB.slice (srows r) (fun _ => rfl)).view.set]{fullShare} f)
      ⊢ payAt m c (some (.rss r)) k 0 := by
  show sbp c r f ⊢ iprop(∃ f, sbp c r f)
  iintro H; iexists f; iexact H

/-- Sending block r of the sums to device n. -/
theorem send_rs (c n : Dev nD) (r : Fin 3) (k : ℕ) (hk : k < 3) (hn : n = pr r c) {off : Fin 2 → ℕ} (hoff : off = ![64 * c.val, 0])
    (inb : ∀ a, off a + S64x2048.size a ≤ S256x2048.size a) (sR : DmaSem sig) (hR : sR = at4 cc0_scratch9 c) {l : List (Pay nD τ sig)}
    {hsc : (RV.slice (Rect.unit (s := S256x2048) off S64x2048.size inb) (fun _ => rfl) : Memref sig (Dev.tc n : Thread nD τ).2.kind .vmem _ .bf16).view.ref.isScScratch = false}
    {hsrc : (SB.slice (srows r) (fun _ => rfl)).view.WordExact}
    {hdst : (RV.slice (Rect.unit (s := S256x2048) off S64x2048.size inb) (fun _ => rfl)).view.WordExact}
    {hsem : DmaTarget.Typed .vmem (.dma sR) (.remote (Dev.tc n : Thread nD τ) (RV.slice (Rect.unit (s := S256x2048) off S64x2048.size inb) (fun _ => rfl)) (.dma (at3 cc0_scratch8 r)) hsc)}
    (Q : PUnit → sProp 𝕄) :
    iprop(Ctx m N ∗ sbHolds m c r k ∗ (∃ f, rvp (pr r c) c f) ∗ giveXF c (pr r c) k
        ∗ dutyTok ER (cell c (.rss r)) k 0 ∗ reached ER (cell c (.rss r)) k
        ∗ dutyTok ER (cell (pr r c) (.rsr c)) k 0 ∗ reached ER (cell (pr r c) (.rsr c)) k ∗ owe c ((cell (pr r c) (.rsr c), 3 + 2 * k, NR) :: l))
      ⊢ iprop(((cred (tallyAt (cell c (.rss r)) 0 NR) ∗ owe c l) -∗ Q ⟨⟩)
          -∗ WP c (Prog.lift (.enqueueDma (SB.slice (srows r) (fun _ => rfl))
              (.remote (Dev.tc n : Thread nD τ) (RV.slice (Rect.unit (s := S256x2048) off S64x2048.size inb) (fun _ => rfl)) (.dma (at3 cc0_scratch8 r)) hsc)
              (.dma sR) hsrc hdst hsem)) Q) := by
  subst hoff hn hR
  unfold owe sbHolds
  iintro ⟨#HC, ⟨%fs, %hfs, Hs⟩, ⟨%fd, Hd⟩, Hg, Ht1, Hr1, Ht2, Hr2, ⟨%W, HO⟩⟩ Hk
  simp only [Prog.lift]
  iapply (Rounds.wp_send_pointsTo_with 𝒱₀ ER (sched m) (c : Thread nD τ) none (κ₁ := N (c, .rss r)) (κ₂ := N (pr r c, .rsr c))
      (r₁ := k) (r₂ := k) (d₁ := 0) (d₂ := 0) (fd := fd) (fs := fs) (q := fullShare) (F := giveXF c (pr r c) k)
      (mem_one m c (.rss r) k (d_rss c r hk)) (mem_one m (pr r c) (.rsr c) k (d_rsr (pr r c) (pr_ne r c).symm hk))
      (3 + 2 * k) 0 NR rfl (amount_at m c (.rss r) k 0) (amount_at m (pr r c) (.rsr c) k 0) (tallyL l)
      (add_comm _ _) (W := W)
      (by
        rw [payload_at m c (.rss r) k 0]
        exact sbp_ex m c r k fs)
      (by
        rw [payload_at m (pr r c) (.rsr c) k 0]
        refine sep_mono_left ?_
        exact landed m c (pr r c) k fd _ inb hfs))
    $$ [Hs Hd Hg Ht1 Hr1 Ht2 Hr2 HO]
  · isplitr; · iapply (Ctx.inv m N c (.rss r)); iexact HC
    isplitr; · iapply (Ctx.inv m N (pr r c) (.rsr c)); iexact HC
    isplitl [Hs]; · iapply (sbp_slice c r fs); iexact Hs
    isplitl [Hd Hg]
    · isplitl [Hd]; · iapply (rvp_slice (pr r c) c fd inb); iexact Hd
      iexact Hg
    isplitl [HO]; · iexact HO
    isplitl [Ht1]; · iexact Ht1
    isplitl [Hr1]; · iexact Hr1
    isplitl [Ht2]; · iexact Ht2
    iexact Hr2
  iintro ⟨Hcr, HO⟩
  rw [wp_ret]; imodintro
  iapply Hk
  isplitl [Hcr]; · iexact Hcr
  iexists _; iexact HO

/-- Filling block r of the sends. -/
theorem fill_wp (c : Dev nD) (r : Fin 3) (v : Vec F S64x2048 .bf16) (f : Vec F S192x2048 .bf16) (Q : PUnit → sProp 𝕄)
    {hl : SB.view.LoadsAt (srows r).toLoadRect} {hx : (SB.access (srows r)).Stores Finset.univ} {hm} :
    sbp c r f ⊢ iprop(((∃ f, ⌜(SB.access (srows r)).read (Elt F) f = v⌝ ∗ sbp c r f) -∗ Q ⟨⟩)
      -∗ WP c (Prog.lift (.load SB (srows r).toLoadRect hl)) fun _ : Vec F S64x2048 .bf16 => WP c (Prog.lift (.store SB (srows r) v Finset.univ hx hm)) Q) := by
  unfold sbp
  iintro H Hk
  simp only [Prog.lift]
  iapply (wp_load_rect 𝒱₀ (c : Thread nD τ) none Set.univ (m := SB) (r := srows r) (q := fullShare) (f := f) (Finset.Subset.refl _)) $$ H
  iintro H
  rw [wp_ret]; imodintro
  iapply (wp_store 𝒱₀ (c : Thread nD τ) none Set.univ (m := SB) (r := srows r) (w := v) (Mk := Finset.univ) (f := f)
    (S := (SB.access (srows r)).set) (Finset.Subset.refl _)) $$ H
  iintro H
  rw [wp_ret]; imodintro
  iapply Hk
  iexists _
  isplitr
  rotate_left
  · iexact H
  · ipureintro; exact View.read_write_univ _ _

theorem rsSend_wp (c : Dev nD) (r : Fin 3) (k : ℕ) (hk : k < 3) {l : List (Pay nD τ sig)} (Q : PUnit → sProp 𝕄) :
    iprop(Ctx m N ∗ ptp c (partV m c k (actV m k)) ∗ (∃ f, sbp c r f) ∗ (∃ f, rvp (pr r c) c f) ∗ giveXF c (pr r c) k
        ∗ dutyTok ER (cell c (.rss r)) k 0 ∗ reached ER (cell c (.rss r)) k
        ∗ dutyTok ER (cell (pr r c) (.rsr c)) k 0 ∗ reached ER (cell (pr r c) (.rsr c)) k ∗ owe c ((cell (pr r c) (.rsr c), 3 + 2 * k, NR) :: l))
      ⊢ iprop(((ptp c (partV m c k (actV m k)) ∗ cred (tallyAt (cell c (.rss r)) 0 NR) ∗ owe c l) -∗ Q ⟨⟩) -∗ WP c (rsSend c r) Q) := by
  iintro ⟨#HC, Hpt, ⟨%f, Hsb⟩, Hrv, Hg, Ht1, Hr1, Ht2, Hr2, HO⟩ Hk
  simp only [rsSend, WP_bind]
  iapply (load_pt c (pr r c) _ (off6_eq c r) (k0_off6_inb c r) _) $$ Hpt
  iintro Hpt
  iapply (fill_wp c r (k0_pay13 (blk (partV m c k (actV m k)) (pr r c))) f _) $$ Hsb
  iintro Hsb
  iapply (send_rs m N c (dv c r) r k hk (dv_eq c r) (off3_eq c) (k0_off3_inb c) _ (atOwn9 c) (l := l) Q) $$ [Hsb Hrv Hg Ht1 Hr1 Ht2 Hr2 HO]
  · unfold sbHolds sentV
    isplitr; · iexact HC
    isplitl [Hsb]; · iexact Hsb
    isplitl [Hrv]; · iexact Hrv
    isplitl [Hg]; · iexact Hg
    isplitl [Ht1]; · iexact Ht1
    isplitl [Hr1]; · iexact Hr1
    isplitl [Ht2]; · iexact Ht2
    isplitl [Hr2]; · iexact Hr2
    iexact HO
  iintro ⟨Hcr, HO⟩
  iapply Hk
  isplitl [Hpt]; · iexact Hpt
  isplitl [Hcr]; · iexact Hcr
  iexact HO

theorem rsWait_wp (c : Dev nD) (r : Fin 3) (k : ℕ) (hk : k < 3) {l : List (Pay nD τ sig)} (hl : Above (3 + 2 * k) l) {hsrc hdst} (Q : PUnit → sProp 𝕄) :
    iprop(Ctx m N ∗ cred (tallyAt (cell c (.rsr (pr r c))) (3 + 2 * k) NR) ∗ atPos ER (cell c (.rsr (pr r c))) k ∅ 0 ∗ owe c l)
      ⊢ iprop(((owe c l ∗ atPos ER (cell c (.rsr (pr r c))) (k + 1) ∅ 0 ∗ reached ER (cell c (.rsr (pr r c))) (k + 1)
            ∗ landRV m (pr r c) c k ∗ giveXF (pr r c) c k) -∗ Q ⟨⟩)
          -∗ WP c (Prog.lift (.waitDma2 (atPeer cc0_scratch9 c r) (SB.slice (srows 0) (fun _ => rfl)) (RV.slice (peerR c r) (fun _ => rfl)) hsrc hdst)) Q) :=
  wait_one m N c (.rsr (pr r c)) k (d_rsr c (pr_ne r c) hk) (3 + 2 * k) (by omega) hl _ (congrArg SemLoc.dma (atPeer9 c r)) _ _ _ _ rfl Q

theorem rsRecv_wp (c : Dev nD) (r : Fin 3) (k : ℕ) (hk : k < 3) (tot : FVec F S64x2048 .f32) {l : List (Pay nD τ sig)} (hl : Above (3 + 2 * k) l)
    (Q : FVec F S64x2048 .f32 → sProp 𝕄) :
    iprop(Ctx m N ∗ cred (tallyAt (cell c (.rsr (pr r c))) (3 + 2 * k) NR) ∗ atPos ER (cell c (.rsr (pr r c))) k ∅ 0 ∗ owe c l)
      ⊢ iprop(((owe c l ∗ atPos ER (cell c (.rsr (pr r c))) (k + 1) ∅ 0 ∗ reached ER (cell c (.rsr (pr r c))) (k + 1)
            ∗ (∃ f, rvp c (pr r c) f) ∗ giveXF (pr r c) c k) -∗ Q (k0_pay16 tot (sentV m (pr r c) k (actV m k) c))) -∗ WP c (rsRecv c r tot) Q) := by
  iintro H Hk
  simp only [rsRecv, WP_bind]
  iapply (rsWait_wp m N c r k hk hl _) $$ H
  unfold landRV
  iintro ⟨HO, Hat, Hre, ⟨%f, %hf, Hrv⟩, Hg⟩
  iapply (load_rv c (pr r c) f (off6_eq c r) (k0_off6_inb c r) _) $$ Hrv
  iintro Hrv
  iapply WP_pure
  rw [hf]
  iapply Hk
  isplitl [HO]; · iexact HO
  isplitl [Hat]; · iexact Hat
  isplitl [Hre]; · iexact Hre
  isplitl [Hrv]; · iexists f; iexact Hrv
  iexact Hg

theorem rsSent_wp (c : Dev nD) (r : Fin 3) (k : ℕ) (hk : k < 3) {l : List (Pay nD τ sig)} (hl : Above 0 l) (Q : PUnit → sProp 𝕄) :
    iprop(Ctx m N ∗ cred (tallyAt (cell c (.rss r)) 0 NR) ∗ atPos ER (cell c (.rss r)) k ∅ 0 ∗ owe c l)
      ⊢ iprop(((owe c l ∗ atPos ER (cell c (.rss r)) (k + 1) ∅ 0 ∗ reached ER (cell c (.rss r)) (k + 1)
            ∗ (∃ f, sbp c r f)) -∗ Q ⟨⟩) -∗ WP c (rsSent c r) Q) :=
  wait_one m N c (.rss r) k (d_rss c r hk) 0 (by omega) hl _ rfl _ _ _ _ rfl Q

end Cert.Mlp

end
-- ==== Proof.Turns.lean ====
/- One gathering and one reduction, whole. -/
module

public import proofs.«01_k».proof.Proof.Steps

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-- One for each of the three other devices. -/
def three (P : Fin 3 → sProp 𝕄) : sProp 𝕄 := iprop(P 0 ∗ P 1 ∗ P 2)

/-- The rows a device sends, in the three parts it lends. -/
theorem own_parts (c : Dev nD) (f : Vec F S256x2048 .bf16) : (xfp c c fullShare f : sProp 𝕄) ⊣⊢ three fun r => xfp c c (sh r) f := by
  unfold three xfp
  refine (pointsTo_share (PosShare.mem_left_op_right _)).trans ?_
  exact ⟨sep_mono_right (pointsTo_share (PosShare.mem_left_op_right _)).1, sep_mono_right (pointsTo_share (PosShare.mem_left_op_right _)).2⟩

/-! ## Gathering -/

/-- What gathering k uses up with the device r + 1 places on: the right to send it one transfer, and that one of its comes. -/
def agTok (c : Dev nD) (k : ℕ) (r : Fin 3) : sProp 𝕄 :=
  iprop(dutyTok ER (cell c (.ags r)) k 0 ∗ dutyTok ER (cell (pr r c) (.agr c)) k 0 ∗ cred (tallyAt (cell c (.agr (pr r c))) (2 + 2 * k) NA))
/-- The device is at round k of the two semaphores. -/
def agPos (c : Dev nD) (k : ℕ) (r : Fin 3) : sProp 𝕄 :=
  iprop(atPos ER (cell c (.ags r)) k ∅ 0 ∗ reached ER (cell c (.ags r)) k ∗ atPos ER (cell c (.agr (pr r c))) k ∅ 0
    ∗ reached ER (cell c (.agr (pr r c))) k)
/-- The place at device n, for device c's rows, and that n is ready for transfer k. -/
def agRight (c n : Dev nD) (k : ℕ) : sProp 𝕄 := iprop((∃ f, xfp n c fullShare f) ∗ reached ER (cell n (.agr c)) k)

/-- Before gathering k, and after it. -/
def agPre (c : Dev nD) (k : ℕ) (r : Fin 3) : sProp 𝕄 := iprop(agTok c k r ∗ agPos c k r ∗ agRight c (pr r c) k ∗ giveRV c (pr r c) k)
@[inherit_doc agPre] def agPost (c : Dev nD) (k : ℕ) (r : Fin 3) : sProp 𝕄 :=
  iprop(agPos c (k + 1) r ∗ xfp c (pr r c) fullShare (actV m k) ∗ giveRV (pr r c) c k)
/-- After the send. -/
def agMid (c : Dev nD) (k : ℕ) (r : Fin 3) : sProp 𝕄 :=
  iprop(cred (tallyAt (cell c (.ags r)) 0 NA) ∗ atPos ER (cell c (.ags r)) k ∅ 0 ∗ atPos ER (cell c (.agr (pr r c))) k ∅ 0
    ∗ cred (tallyAt (cell c (.agr (pr r c))) (2 + 2 * k) NA))
/-- After the other device's rows came. -/
def agLate (c : Dev nD) (k : ℕ) (r : Fin 3) : sProp 𝕄 :=
  iprop(cred (tallyAt (cell c (.ags r)) 0 NA) ∗ atPos ER (cell c (.ags r)) k ∅ 0 ∗ atPos ER (cell c (.agr (pr r c))) (k + 1) ∅ 0
    ∗ reached ER (cell c (.agr (pr r c))) (k + 1) ∗ xfp c (pr r c) fullShare (actV m k) ∗ giveRV (pr r c) c k)

theorem ag1 (c : Dev nD) (r : Fin 3) (k : ℕ) (hk : k < 4) {l : List (Pay nD τ sig)} (Q : PUnit → sProp 𝕄) :
    iprop(Ctx m N ∗ agPre c k r ∗ xfp c c (sh r) (actV m k) ∗ owe c ((cell (pr r c) (.agr c), 2 + 2 * k, NA) :: l))
      ⊢ iprop(((agMid c k r ∗ owe c l) -∗ Q ⟨⟩) -∗ WP c (agSend c r) Q) := by
  unfold agPre agTok agPos agRight agMid
  iintro ⟨#HC, ⟨⟨Ht1, Ht2, Hcr⟩, ⟨Ha, Hra, Hb, -⟩, ⟨Hd, Hr2⟩, Hg⟩, Hx, HO⟩ Hk
  iapply (agSend_wp m N c r k hk Q) $$ [Ht1 Ht2 Hra Hd Hr2 Hg Hx HO]
  · isplitr; · iexact HC
    isplitl [Hx]; · iexact Hx
    isplitl [Hd]; · iexact Hd
    isplitl [Hg]; · iexact Hg
    isplitl [Ht1]; · iexact Ht1
    isplitl [Hra]; · iexact Hra
    isplitl [Ht2]; · iexact Ht2
    isplitl [Hr2]; · iexact Hr2
    iexact HO
  iintro ⟨Hc, HO⟩
  iapply Hk
  isplitr [HO]
  · isplitl [Hc]; · iexact Hc
    isplitl [Ha]; · iexact Ha
    isplitl [Hb]; · iexact Hb
    iexact Hcr
  iexact HO

theorem ag2 (c : Dev nD) (r : Fin 3) (k : ℕ) (hk : k < 4) {l : List (Pay nD τ sig)} (hl : Above (2 + 2 * k) l) (Q : PUnit → sProp 𝕄) :
    iprop(Ctx m N ∗ agMid c k r ∗ owe c l) ⊢ iprop(((agLate m c k r ∗ owe c l) -∗ Q ⟨⟩) -∗ WP c (agRecv c r) Q) := by
  unfold agMid agLate
  iintro ⟨#HC, ⟨Hc, Ha, Hb, Hcr⟩, HO⟩ Hk
  iapply (agRecv_wp m N c r k hk hl Q) $$ [Hcr Hb HO]
  · isplitr; · iexact HC
    isplitl [Hcr]; · iexact Hcr
    isplitl [Hb]; · iexact Hb
    iexact HO
  iintro ⟨HO, Hb, Hre, Hx, Hg⟩
  iapply Hk
  isplitr [HO]
  · isplitl [Hc]; · iexact Hc
    isplitl [Ha]; · iexact Ha
    isplitl [Hb]; · iexact Hb
    isplitl [Hre]; · iexact Hre
    isplitl [Hx]; · iexact Hx
    iexact Hg
  iexact HO

theorem ag3 (c : Dev nD) (r : Fin 3) (k : ℕ) (hk : k < 4) {l : List (Pay nD τ sig)} (hl : Above 0 l) (Q : PUnit → sProp 𝕄) :
    iprop(Ctx m N ∗ agLate m c k r ∗ owe c l)
      ⊢ iprop(((agPost m c k r ∗ xfp c c (sh r) (actV m k) ∗ owe c l) -∗ Q ⟨⟩) -∗ WP c (agSent c r) Q) := by
  unfold agLate agPost agPos
  iintro ⟨#HC, ⟨Hc, Ha, Hb, Hre, Hx, Hg⟩, HO⟩ Hk
  iapply (agSent_wp m N c r k hk hl Q) $$ [Hc Ha HO]
  · isplitr; · iexact HC
    isplitl [Hc]; · iexact Hc
    isplitl [Ha]; · iexact Ha
    iexact HO
  iintro ⟨HO, Ha, Hra, Ho⟩
  iapply Hk
  isplitr [HO Ho]
  · isplitr [Hx Hg]
    · isplitl [Ha]; · iexact Ha
      isplitl [Hra]; · iexact Hra
      isplitl [Hb]; · iexact Hb
      iexact Hre
    isplitl [Hx]; · iexact Hx
    iexact Hg
  isplitl [Ho]; · iexact Ho
  iexact HO

/-- Gathering k: the device's own rows go to the others, theirs come. -/
theorem gather_wp (c : Dev nD) (k : ℕ) (hk : k < 4) {l : List (Pay nD τ sig)} (hl : Above (2 + 2 * k) l) (Q : PUnit → sProp 𝕄) :
    iprop(Ctx m N ∗ three (agPre c k) ∗ xfp c c fullShare (actV m k) ∗ owe c (payAG c k ++ l))
      ⊢ iprop(((three (agPost m c k) ∗ xfp c c fullShare (actV m k) ∗ owe c l) -∗ Q ⟨⟩) -∗ WP c (gather c) Q) := by
  have h0 : Above 0 l := hl.mono (Nat.zero_le _)
  iintro ⟨#HC, H, Hx, HO⟩ Hk
  ihave Hx := ((own_parts c (actV m k)).1) $$ Hx
  unfold three
  icases H with ⟨H0, H1, H2⟩
  icases Hx with ⟨X0, X1, X2⟩
  simp only [gather, WP_bind, payAG, List.cons_append, List.nil_append]
  iapply (ag1 m N c 0 k hk _) $$ [H0 X0 HO]
  · isplitr; · iexact HC
    isplitl [H0]; · iexact H0
    isplitl [X0]; · iexact X0
    iexact HO
  iintro ⟨H0, HO⟩
  iapply (ag1 m N c 1 k hk _) $$ [H1 X1 HO]
  · isplitr; · iexact HC
    isplitl [H1]; · iexact H1
    isplitl [X1]; · iexact X1
    iexact HO
  iintro ⟨H1, HO⟩
  iapply (ag1 m N c 2 k hk _) $$ [H2 X2 HO]
  · isplitr; · iexact HC
    isplitl [H2]; · iexact H2
    isplitl [X2]; · iexact X2
    iexact HO
  iintro ⟨H2, HO⟩
  iapply (ag2 m N c 0 k hk hl _) $$ [H0 HO]
  · isplitr; · iexact HC
    isplitl [H0]; · iexact H0
    iexact HO
  iintro ⟨H0, HO⟩
  iapply (ag2 m N c 1 k hk hl _) $$ [H1 HO]
  · isplitr; · iexact HC
    isplitl [H1]; · iexact H1
    iexact HO
  iintro ⟨H1, HO⟩
  iapply (ag2 m N c 2 k hk hl _) $$ [H2 HO]
  · isplitr; · iexact HC
    isplitl [H2]; · iexact H2
    iexact HO
  iintro ⟨H2, HO⟩
  iapply (ag3 m N c 0 k hk h0 _) $$ [H0 HO]
  · isplitr; · iexact HC
    isplitl [H0]; · iexact H0
    iexact HO
  iintro ⟨H0, X0, HO⟩
  iapply (ag3 m N c 1 k hk h0 _) $$ [H1 HO]
  · isplitr; · iexact HC
    isplitl [H1]; · iexact H1
    iexact HO
  iintro ⟨H1, X1, HO⟩
  iapply (ag3 m N c 2 k hk h0 _) $$ [H2 HO]
  · isplitr; · iexact HC
    isplitl [H2]; · iexact H2
    iexact HO
  iintro ⟨H2, X2, HO⟩
  iapply Hk
  isplitl [H0 H1 H2]
  · isplitl [H0]; · iexact H0
    isplitl [H1]; · iexact H1
    iexact H2
  isplitr [HO]
  · iapply ((own_parts c (actV m k)).2)
    unfold three
    isplitl [X0]; · iexact X0
    isplitl [X1]; · iexact X1
    iexact X2
  iexact HO

/-! ## Reducing -/

/-- What reduction k uses up with the device r + 1 places on; where the device is; the place at device n for its sums. -/
def rsTok (c : Dev nD) (k : ℕ) (r : Fin 3) : sProp 𝕄 :=
  iprop(dutyTok ER (cell c (.rss r)) k 0 ∗ dutyTok ER (cell (pr r c) (.rsr c)) k 0 ∗ cred (tallyAt (cell c (.rsr (pr r c))) (3 + 2 * k) NR))
@[inherit_doc rsTok] def rsPos (c : Dev nD) (k : ℕ) (r : Fin 3) : sProp 𝕄 :=
  iprop(atPos ER (cell c (.rss r)) k ∅ 0 ∗ reached ER (cell c (.rss r)) k ∗ atPos ER (cell c (.rsr (pr r c))) k ∅ 0
    ∗ reached ER (cell c (.rsr (pr r c))) k)
@[inherit_doc rsTok] def rsRight (c n : Dev nD) (k : ℕ) : sProp 𝕄 := iprop((∃ f, rvp n c f) ∗ reached ER (cell n (.rsr c)) k)

/-- Before reduction k, and after it. -/
def rsPre (c : Dev nD) (k : ℕ) (r : Fin 3) : sProp 𝕄 :=
  iprop(rsTok c k r ∗ rsPos c k r ∗ rsRight c (pr r c) k ∗ (∃ f, sbp c r f) ∗ giveXF c (pr r c) k)
@[inherit_doc rsPre] def rsPost (c : Dev nD) (k : ℕ) (r : Fin 3) : sProp 𝕄 :=
  iprop(rsPos c (k + 1) r ∗ (∃ f, sbp c r f) ∗ (∃ f, rvp c (pr r c) f) ∗ giveXF (pr r c) c k)
/-- After the send. -/
def rsMid (c : Dev nD) (k : ℕ) (r : Fin 3) : sProp 𝕄 :=
  iprop(cred (tallyAt (cell c (.rss r)) 0 NR) ∗ atPos ER (cell c (.rss r)) k ∅ 0 ∗ atPos ER (cell c (.rsr (pr r c))) k ∅ 0
    ∗ cred (tallyAt (cell c (.rsr (pr r c))) (3 + 2 * k) NR))
/-- After the other device's sums came. -/
def rsLate (c : Dev nD) (k : ℕ) (r : Fin 3) : sProp 𝕄 :=
  iprop(cred (tallyAt (cell c (.rss r)) 0 NR) ∗ atPos ER (cell c (.rss r)) k ∅ 0 ∗ atPos ER (cell c (.rsr (pr r c))) (k + 1) ∅ 0
    ∗ reached ER (cell c (.rsr (pr r c))) (k + 1) ∗ (∃ f, rvp c (pr r c) f) ∗ giveXF (pr r c) c k)

theorem rs1 (c : Dev nD) (r : Fin 3) (k : ℕ) (hk : k < 3) {l : List (Pay nD τ sig)} (Q : PUnit → sProp 𝕄) :
    iprop(Ctx m N ∗ rsPre c k r ∗ ptp c (partV m c k (actV m k)) ∗ owe c ((cell (pr r c) (.rsr c), 3 + 2 * k, NR) :: l))
      ⊢ iprop(((rsMid c k r ∗ ptp c (partV m c k (actV m k)) ∗ owe c l) -∗ Q ⟨⟩) -∗ WP c (rsSend c r) Q) := by
  unfold rsPre rsTok rsPos rsRight rsMid
  iintro ⟨#HC, ⟨⟨Ht1, Ht2, Hcr⟩, ⟨Ha, Hra, Hb, -⟩, ⟨Hd, Hr2⟩, Hs, Hg⟩, Hp, HO⟩ Hk
  iapply (rsSend_wp m N c r k hk Q) $$ [Ht1 Ht2 Hra Hd Hr2 Hs Hg Hp HO]
  · isplitr; · iexact HC
    isplitl [Hp]; · iexact Hp
    isplitl [Hs]; · iexact Hs
    isplitl [Hd]; · iexact Hd
    isplitl [Hg]; · iexact Hg
    isplitl [Ht1]; · iexact Ht1
    isplitl [Hra]; · iexact Hra
    isplitl [Ht2]; · iexact Ht2
    isplitl [Hr2]; · iexact Hr2
    iexact HO
  iintro ⟨Hp, Hc, HO⟩
  iapply Hk
  isplitr [Hp HO]
  · isplitl [Hc]; · iexact Hc
    isplitl [Ha]; · iexact Ha
    isplitl [Hb]; · iexact Hb
    iexact Hcr
  isplitl [Hp]; · iexact Hp
  iexact HO

theorem rs2 (c : Dev nD) (r : Fin 3) (k : ℕ) (hk : k < 3) (tot : FVec F S64x2048 .f32) {l : List (Pay nD τ sig)} (hl : Above (3 + 2 * k) l)
    (Q : FVec F S64x2048 .f32 → sProp 𝕄) :
    iprop(Ctx m N ∗ rsMid c k r ∗ owe c l)
      ⊢ iprop(((rsLate c k r ∗ owe c l) -∗ Q (k0_pay16 tot (sentV m (pr r c) k (actV m k) c))) -∗ WP c (rsRecv c r tot) Q) := by
  unfold rsMid rsLate
  iintro ⟨#HC, ⟨Hc, Ha, Hb, Hcr⟩, HO⟩ Hk
  iapply (rsRecv_wp m N c r k hk tot hl Q) $$ [Hcr Hb HO]
  · isplitr; · iexact HC
    isplitl [Hcr]; · iexact Hcr
    isplitl [Hb]; · iexact Hb
    iexact HO
  iintro ⟨HO, Hb, Hre, Hx, Hg⟩
  iapply Hk
  isplitr [HO]
  · isplitl [Hc]; · iexact Hc
    isplitl [Ha]; · iexact Ha
    isplitl [Hb]; · iexact Hb
    isplitl [Hre]; · iexact Hre
    isplitl [Hx]; · iexact Hx
    iexact Hg
  iexact HO

theorem rs3 (c : Dev nD) (r : Fin 3) (k : ℕ) (hk : k < 3) {l : List (Pay nD τ sig)} (hl : Above 0 l) (Q : PUnit → sProp 𝕄) :
    iprop(Ctx m N ∗ rsLate c k r ∗ owe c l) ⊢ iprop(((rsPost c k r ∗ owe c l) -∗ Q ⟨⟩) -∗ WP c (rsSent c r) Q) := by
  unfold rsLate rsPost rsPos
  iintro ⟨#HC, ⟨Hc, Ha, Hb, Hre, Hx, Hg⟩, HO⟩ Hk
  iapply (rsSent_wp m N c r k hk hl Q) $$ [Hc Ha HO]
  · isplitr; · iexact HC
    isplitl [Hc]; · iexact Hc
    isplitl [Ha]; · iexact Ha
    iexact HO
  iintro ⟨HO, Ha, Hra, Hs⟩
  iapply Hk
  isplitr [HO]
  · isplitl [Ha Hra Hb Hre]
    · isplitl [Ha]; · iexact Ha
      isplitl [Hra]; · iexact Hra
      isplitl [Hb]; · iexact Hb
      iexact Hre
    isplitl [Hs]; · iexact Hs
    isplitl [Hx]; · iexact Hx
    iexact Hg
  iexact HO

/-- Reduction k leaves the device's own rows of the next activations. -/
theorem reduce_wp (c : Dev nD) (k : ℕ) (hk : k < 3) {l : List (Pay nD τ sig)} (hl : Above (3 + 2 * k) l) (Q : PUnit → sProp 𝕄) :
    iprop(Ctx m N ∗ three (rsPre c k) ∗ ptp c (partV m c k (actV m k)) ∗ (∃ f, xfp c c fullShare f) ∗ owe c (payRS c k ++ l))
      ⊢ iprop(((three (rsPost c k) ∗ ptp c (partV m c k (actV m k)) ∗ xfp c c fullShare (actV m (k + 1)) ∗ owe c l) -∗ Q ⟨⟩)
          -∗ WP c (reduce c) Q) := by
  have h0 : Above 0 l := hl.mono (Nat.zero_le _)
  iintro ⟨#HC, H, Hp, Hx, HO⟩ Hk
  unfold three
  icases H with ⟨H0, H1, H2⟩
  simp only [reduce, WP_bind, payRS, List.cons_append, List.nil_append]
  iapply (rs1 m N c 0 k hk _) $$ [H0 Hp HO]
  · isplitr; · iexact HC
    isplitl [H0]; · iexact H0
    isplitl [Hp]; · iexact Hp
    iexact HO
  iintro ⟨H0, Hp, HO⟩
  iapply (rs1 m N c 1 k hk _) $$ [H1 Hp HO]
  · isplitr; · iexact HC
    isplitl [H1]; · iexact H1
    isplitl [Hp]; · iexact Hp
    iexact HO
  iintro ⟨H1, Hp, HO⟩
  iapply (rs1 m N c 2 k hk _) $$ [H2 Hp HO]
  · isplitr; · iexact HC
    isplitl [H2]; · iexact H2
    isplitl [Hp]; · iexact Hp
    iexact HO
  iintro ⟨H2, Hp, HO⟩
  iapply (load_pt c c _ (off1_eq c) (k0_off1_inb c) _) $$ Hp
  iintro Hp
  iapply (rs2 m N c 0 k hk _ hl _) $$ [H0 HO]
  · isplitr; · iexact HC
    isplitl [H0]; · iexact H0
    iexact HO
  iintro ⟨H0, HO⟩
  iapply (rs2 m N c 1 k hk _ hl _) $$ [H1 HO]
  · isplitr; · iexact HC
    isplitl [H1]; · iexact H1
    iexact HO
  iintro ⟨H1, HO⟩
  iapply (rs2 m N c 2 k hk _ hl _) $$ [H2 HO]
  · isplitr; · iexact HC
    isplitl [H2]; · iexact H2
    iexact HO
  iintro ⟨H2, HO⟩
  iapply (rs3 m N c 0 k hk h0 _) $$ [H0 HO]
  · isplitr; · iexact HC
    isplitl [H0]; · iexact H0
    iexact HO
  iintro ⟨H0, HO⟩
  iapply (rs3 m N c 1 k hk h0 _) $$ [H1 HO]
  · isplitr; · iexact HC
    isplitl [H1]; · iexact H1
    iexact HO
  iintro ⟨H1, HO⟩
  iapply (rs3 m N c 2 k hk h0 _) $$ [H2 HO]
  · isplitr; · iexact HC
    isplitl [H2]; · iexact H2
    iexact HO
  iintro ⟨H2, HO⟩
  iapply (putOwn_wp c (actV m (k + 1)) _ (show _ = k0_pay18 (totV m c k (actV m k)) from blk_asm _ c) Q) $$ Hx
  iintro Hx
  iapply Hk
  isplitl [H0 H1 H2]
  · isplitl [H0]; · iexact H0
    isplitl [H1]; · iexact H1
    iexact H2
  isplitl [Hp]; · iexact Hp
  isplitl [Hx]; · iexact Hx
  iexact HO

end Cert.Mlp

end
-- ==== Proof.Weights.lean ====
/- The weights' transfers and one layer's products. -/
module

public import proofs.«01_k».proof.Proof.Turns
public import Idealize.ShloMosaic.Lib.Writes

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-! ## The pieces -/

/-- The buffer of first weights; a slot of second weights; a layer's first weights in place; a tile of its second weights in place. -/
def wip (c : Dev nD) (f : Vec F S2048x4096 .f32) : sProp 𝕄 := WI.view.loc (c : Thread nD τ) ↦{fullShare} f
@[inherit_doc wip] def slotp (c : Dev nD) (s : Fin 4) (f : Vec F S4x512x2048 .f32) : sProp 𝕄 :=
  (WO.access (slotR s)).loc (c : Thread nD τ) ↦[(WO.access (slotR s)).set]{fullShare} f
@[inherit_doc wip] def winp (c : Dev nD) (l : Fin 3) : sProp 𝕄 :=
  (wIn l).view.loc (c : Thread nD τ) ↦[(wIn l).view.set]{fullShare} m ((wIn l).view.loc (c : Thread nD τ))
@[inherit_doc wip] def tilp (c : Dev nD) (l : Fin 3) (t : Fin 8) : sProp 𝕄 :=
  (tileM l t).view.loc (c : Thread nD τ) ↦[(tileM l t).view.set]{fullShare} m ((tileM l t).view.loc (c : Thread nD τ))

abbrev wiC (c : Dev nD) : GSem nD τ sig := ((c : Thread nD τ), .dma wiS)
abbrev woS (s : Fin 4) : DmaSem sig := at4 cc0_scratch11 s
abbrev woC (c : Dev nD) (s : Fin 4) : GSem nD τ sig := ((c : Thread nD τ), .dma (woS s))
abbrev NI : ℕ := WI.view.dmaCredit
abbrev NO (s : Fin 4) : ℕ := (slotM s).view.dmaCredit

theorem NI_pos : 0 < NI := View.dmaCredit_pos _ (by decide)
theorem NO_pos (s : Fin 4) : 0 < NO s := View.dmaCredit_pos _ (by decide)

theorem wIn_read (c : Dev nD) : ∀ l : Fin 3, (wIn l).view.read (Elt F) (m ((wIn l).view.loc (c : Thread nD τ))) = wi m c l.val
  | 0 => rfl
  | 1 => rfl
  | 2 => rfl
theorem tile_read (c : Dev nD) (t : Fin 8) : ∀ l : Fin 3, (tileM l t).view.read (Elt F) (m ((tileM l t).view.loc (c : Thread nD τ))) = fun j => wo m c l.val ((tileR t).emb j)
  | 0 => rfl
  | 1 => rfl
  | 2 => rfl

theorem slot_set (s : Fin 4) : (slotM s).view.set = (WO.access (slotR s)).set := View.set_reshape _ _

/-- Slot s holds layer l's tile t. -/
def slotHolds (c : Dev nD) (s : Fin 4) (l : ℕ) (t : Fin 8) : sProp 𝕄 :=
  iprop(∃ f, ⌜(WO.access (slotR s)).read (Elt F) f = bV m c l t⌝ ∗ slotp c s f)

/-! ## Transfers under way -/

def inFl (c : Dev nD) (l : Fin 3) : sProp 𝕄 :=
  Transfers.Flight (countersEmb : UEmb Counters 𝕄) (c : Thread nD τ) (.dma wiS) 0 NI iprop(wip c (wi m c l.val) ∗ winp m c l)
def outFl (c : Dev nD) (k : Fin 24) : sProp 𝕄 :=
  Transfers.Flight (countersEmb : UEmb Counters 𝕄) (c : Thread nD τ) (.dma (woS (slo k))) 0 (NO (slo k))
    iprop(slotHolds m c (slo k) (lay k).val (til k) ∗ tilp m c (lay k) (til k))

theorem issueIn_wp (c : Dev nD) (l : Fin 3) (Q : PUnit → sProp 𝕄) :
    iprop((∃ f, wip c f) ∗ winp m c l ∗ semVal (wiC c) 0) ⊢ iprop((inFl m c l -∗ Q ⟨⟩) -∗ WP c (issueIn l) Q) := by
  unfold wip winp inFl
  iintro ⟨⟨%f, Hd⟩, Hs, Hv⟩ Hk
  simp only [issueIn, Prog.lift]
  iapply (Transfers.wp_dmaLocal countersEmb 𝒱₀ (c : Thread nD τ) none (q := fullShare) (Sd := Finset.univ) (fd := f)
    (fs := m ((wIn l).view.loc (c : Thread nD τ))) 0 NI rfl NI_pos (Finset.subset_univ _)) $$ [Hd Hs Hv]
  · isplitl [Hs]; · iexact Hs
    isplitl [Hd]; · iexact Hd
    iexact Hv
  iintro H
  rw [wp_ret]; imodintro
  iapply Hk
  iapply (Transfers.Flight_mono countersEmb (c : Thread nD τ) ?_) $$ H
  refine sep_mono_left (Entails.of_eq ?_)
  rw [show wi m c l.val = WI.view.write (Elt F) f (wi m c l.val) Finset.univ from (View.write_whole_univ _ _ _).symm, ← wIn_read m c l]
  rfl

theorem waitIn_wp (c : Dev nD) (l : Fin 3) {L : List (Pay nD τ sig)} (hl : Above 0 L) (Q : PUnit → sProp 𝕄) :
    iprop(Ctx m N ∗ inFl m c l ∗ owe c L)
      ⊢ iprop(((wip c (wi m c l.val) ∗ winp m c l ∗ semVal (wiC c) 0 ∗ owe c L) -∗ Q ⟨⟩) -∗ WP c (waitIn l) Q) := by
  unfold inFl owe
  iintro ⟨#HC, H, ⟨%W, HO⟩⟩ Hk
  simp only [waitIn, Prog.lift]
  iapply (Transfers.wp_waitLocalO countersEmb 𝒱₀ (c : Thread nD τ) none 0 (N := NI) rfl (O := tallyL L) (W := W)) $$ [H HO]
  · isplitl [H]; · iexact H
    isplitl [HO]; · iexact HO
    iapply (Ctx.may m N c _ (by decide) hl); iexact HC
  iintro ⟨⟨Hd, Hs⟩, Hv, HO⟩
  rw [wp_ret]; imodintro
  iapply Hk
  isplitl [Hd]; · iexact Hd
  isplitl [Hs]; · iexact Hs
  isplitl [Hv]; · iexact Hv
  iexists _; iexact HO

theorem slot_write (s : Fin 4) (f : Vec F S4x512x2048 .f32) (w : Vec F S512x2048 .f32) :
    (slotM s).view.write (Elt F) f w Finset.univ
      = (WO.access (slotR s)).write (Elt F) f (fun i => w ((Shape.reshapeEquiv numel_slot).symm i)) Finset.univ :=
  View.write_reshape_univ (WO.access (slotR s)) numel_slot f w
theorem slot_landed (c : Dev nD) (s : Fin 4) (l : Fin 3) (t : Fin 8) (f : Vec F S4x512x2048 .f32) :
    ((slotM s).view.loc (c : Thread nD τ) ↦[(WO.access (slotR s)).set]{fullShare}
        (slotM s).view.write (Elt F) f ((tileM l t).view.read (Elt F) (m ((tileM l t).view.loc (c : Thread nD τ)))) Finset.univ)
      ⊢ slotHolds m c s l.val t := by
  refine (Entails.of_eq (congrArg (fun g : Vec F S4x512x2048 .f32 =>
    ((WO.access (slotR s)).loc (c : Thread nD τ) ↦[(WO.access (slotR s)).set]{fullShare} g : sProp 𝕄)) (slot_write s f _))).trans ?_
  unfold slotHolds slotp
  iintro H
  iexists _
  isplitr
  rotate_left
  · iexact H
  · ipureintro
    refine (View.read_write_univ _ _).trans ?_
    rw [tile_read]
    rfl

theorem issueOut_wp (c : Dev nD) (k : Fin 24) (Q : PUnit → sProp 𝕄) :
    iprop((∃ f, slotp c (slo k) f) ∗ tilp m c (lay k) (til k) ∗ semVal (woC c (slo k)) 0) ⊢ iprop((outFl m c k -∗ Q ⟨⟩) -∗ WP c (issueOut k) Q) := by
  unfold slotp tilp outFl
  iintro ⟨⟨%f, Hd⟩, Hs, Hv⟩ Hk
  simp only [issueOut, Prog.lift]
  iapply (Transfers.wp_dmaLocal countersEmb 𝒱₀ (c : Thread nD τ) none (src := tileM (lay k) (til k)) (dst := slotM (slo k)) (q := fullShare)
    (Sd := (WO.access (slotR (slo k))).set) (fd := f)
    (fs := m ((tileM (lay k) (til k)).view.loc (c : Thread nD τ))) 0 (NO (slo k)) rfl (NO_pos _) (slot_set _).le) $$ [Hd Hs Hv]
  · isplitl [Hs]; · iexact Hs
    isplitl [Hd]; · iexact Hd
    iexact Hv
  iintro H
  rw [wp_ret]; imodintro
  iapply Hk
  iapply (Transfers.Flight_mono countersEmb (c : Thread nD τ) (sep_mono_left (slot_landed m c (slo k) (lay k) (til k) f))) $$ H

theorem waitOut_wp (c : Dev nD) (k : Fin 24) {L : List (Pay nD τ sig)} (hl : Above 0 L) (Q : PUnit → sProp 𝕄) :
    iprop(Ctx m N ∗ outFl m c k ∗ owe c L)
      ⊢ iprop(((slotHolds m c (slo k) (lay k).val (til k) ∗ tilp m c (lay k) (til k) ∗ semVal (woC c (slo k)) 0 ∗ owe c L) -∗ Q ⟨⟩) -∗ WP c (waitOut k) Q) := by
  unfold outFl owe
  iintro ⟨#HC, H, ⟨%W, HO⟩⟩ Hk
  simp only [waitOut, Prog.lift]
  iapply (Transfers.wp_waitLocalO countersEmb 𝒱₀ (c : Thread nD τ) none 0 (N := NO (slo k)) rfl (O := tallyL L) (W := W)) $$ [H HO]
  · isplitl [H]; · iexact H
    isplitl [HO]; · iexact HO
    iapply (Ctx.may m N c _ (by decide) hl); iexact HC
  iintro ⟨⟨Hd, Hs⟩, Hv, HO⟩
  rw [wp_ret]; imodintro
  iapply Hk
  isplitl [Hd]; · iexact Hd
  isplitl [Hs]; · iexact Hs
  isplitl [Hv]; · iexact Hv
  iexists _; iexact HO

/-! ## Loads -/

theorem load_wi (c : Dev nD) (l : ℕ) (t : Fin 8) {hl} (Q : Vec F S2048x512 .f32 → sProp 𝕄) :
    wip c (wi m c l) ⊢ iprop((wip c (wi m c l) -∗ Q (wV m c l t)) -∗ WP c (Prog.lift (.load WI (cols t).toLoadRect hl)) Q) := by
  unfold wip
  iintro H Hk
  simp only [Prog.lift]
  iapply (wp_load_rect 𝒱₀ (c : Thread nD τ) none Set.univ (m := WI) (r := cols t) (S := Finset.univ) (q := fullShare) (f := wi m c l) (Finset.subset_univ _)) $$ H
  iintro H
  rw [wp_ret, show (WI.access (cols t)).read (Elt F) (wi m c l) = wV m c l t from rfl]; imodintro
  iapply Hk; iexact H

theorem load_slot (c : Dev nD) (s : Fin 4) (l : ℕ) (t : Fin 8) {hl} (Q : Vec F S1x512x2048 .f32 → sProp 𝕄) :
    slotHolds m c s l t ⊢ iprop(((∃ f, slotp c s f) -∗ Q (bV m c l t)) -∗ WP c (Prog.lift (.load WO (slotR s).toLoadRect hl)) Q) := by
  unfold slotHolds slotp
  iintro ⟨%f, %hf, H⟩ Hk
  simp only [Prog.lift]
  iapply (wp_load_rect 𝒱₀ (c : Thread nD τ) none Set.univ (m := WO) (r := slotR s) (q := fullShare) (f := f) (Finset.Subset.refl _)) $$ H
  iintro H
  rw [wp_ret, hf]; imodintro
  iapply Hk; iexists f; iexact H

end Cert.Mlp

end
-- ==== Proof.Products.lean ====
/- One layer's products: eight tiles, the weights of later ones on their way. -/
module

public import proofs.«01_k».proof.Proof.Weights

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-! ## The first weights between layers -/

/-- The first weights in place but layer l's. -/
def winsBut (c : Dev nD) : Fin 3 → sProp 𝕄
  | 0 => iprop(winp m c 1 ∗ winp m c 2)
  | 1 => iprop(winp m c 0 ∗ winp m c 2)
  | 2 => iprop(winp m c 0 ∗ winp m c 1)

theorem wins_take (c : Dev nD) (l : Fin 3) : three (winp m c) ⊢ iprop(winp m c l ∗ winsBut m c l) := by
  unfold three
  match l with
  | 0 => exact BI.Entails.refl _
  | 1 =>
    show _ ⊢ iprop(winp m c 1 ∗ winp m c 0 ∗ winp m c 2)
    iintro ⟨H0, H1, H2⟩
    isplitl [H1]; · iexact H1
    isplitl [H0]; · iexact H0
    iexact H2
  | 2 =>
    show _ ⊢ iprop(winp m c 2 ∗ winp m c 0 ∗ winp m c 1)
    iintro ⟨H0, H1, H2⟩
    isplitl [H2]; · iexact H2
    isplitl [H0]; · iexact H0
    iexact H1
theorem wins_put (c : Dev nD) (l : Fin 3) : iprop(winp m c l ∗ winsBut m c l) ⊢ three (winp m c) := by
  unfold three
  match l with
  | 0 => exact BI.Entails.refl _
  | 1 =>
    show iprop(winp m c 1 ∗ winp m c 0 ∗ winp m c 2) ⊢ _
    iintro ⟨H1, H0, H2⟩
    isplitl [H0]; · iexact H0
    isplitl [H1]; · iexact H1
    iexact H2
  | 2 =>
    show iprop(winp m c 2 ∗ winp m c 0 ∗ winp m c 1) ⊢ _
    iintro ⟨H2, H0, H1⟩
    isplitl [H0]; · iexact H0
    isplitl [H1]; · iexact H1
    iexact H2

/-- Before layer l its first weights are on their way; past the last layer none are. -/
def inSt (c : Dev nD) (l : ℕ) : sProp 𝕄 :=
  if h : l < 3 then iprop(inFl m c ⟨l, h⟩ ∗ winsBut m c ⟨l, h⟩) else iprop((∃ f, wip c f) ∗ semVal (wiC c) 0 ∗ three (winp m c))
/-- With n of layer l's tiles done, the layer's first weights are there; with all done, it is before the next layer. -/
def midIn (c : Dev nD) (l n : ℕ) : sProp 𝕄 :=
  if n < 8 then iprop(wip c (wi m c l) ∗ semVal (wiC c) 0 ∗ three (winp m c)) else inSt m c (l + 1)

theorem maybeIn_wp {α : Type} (c : Dev nD) (k : Fin 24) (p : K F α) (Q : α → sProp 𝕄) :
    iprop(wip c (wi m c (lay k).val) ∗ semVal (wiC c) 0 ∗ three (winp m c))
      ⊢ iprop((midIn m c (lay k).val ((til k).val + 1) -∗ WP c p Q)
          -∗ WP c (if h : k.val % 8 = 7 ∧ k.val / 8 + 1 < 3 then issueIn ⟨k.val / 8 + 1, h.2⟩ >>= fun _ => p else p) Q) := by
  iintro ⟨Hd, Hv, Hw⟩ Hk
  by_cases h : k.val % 8 = 7 ∧ k.val / 8 + 1 < 3
  · rw [dif_pos h, WP_bind]
    ihave Hw := (wins_take m c ⟨k.val / 8 + 1, h.2⟩) $$ Hw
    icases Hw with ⟨Hw, Hr⟩
    iapply (issueIn_wp m c ⟨k.val / 8 + 1, h.2⟩ _) $$ [Hd Hv Hw]
    · isplitl [Hd]; · iexists _; iexact Hd
      isplitl [Hw]; · iexact Hw
      iexact Hv
    iintro H
    iapply Hk
    unfold midIn
    rw [if_neg (show ¬ (til k).val + 1 < 8 by show ¬ k.val % 8 + 1 < 8; omega)]
    unfold inSt
    rw [dif_pos (show (lay k).val + 1 < 3 from h.2)]
    isplitl [H]; · iexact H
    iexact Hr
  · rw [dif_neg h]
    iapply Hk
    unfold midIn
    by_cases h7 : k.val % 8 = 7
    · rw [if_neg (show ¬ (til k).val + 1 < 8 by show ¬ k.val % 8 + 1 < 8; omega)]
      unfold inSt
      rw [dif_neg (show ¬ (lay k).val + 1 < 3 from fun h' => h ⟨h7, h'⟩)]
      isplitl [Hd]; · iexists _; iexact Hd
      isplitl [Hv]; · iexact Hv
      iexact Hw
    · rw [if_pos (show (til k).val + 1 < 8 by show k.val % 8 + 1 < 8; omega)]
      isplitl [Hd]; · iexact Hd
      isplitl [Hv]; · iexact Hv
      iexact Hw

/-! ## The second weights -/

abbrev sl (j : ℕ) : Fin 4 := ⟨j % 4, Nat.mod_lt _ (by decide)⟩

/-- Tile j of the second weights in place; it is on its way, or its slot is free. -/
def tilAt (c : Dev nD) (j : ℕ) : sProp 𝕄 := if h : j < 24 then tilp m c (lay ⟨j, h⟩) (til ⟨j, h⟩) else iprop(emp)
@[inherit_doc tilAt] def pend (c : Dev nD) (j : ℕ) : sProp 𝕄 :=
  if h : j < 24 then outFl m c ⟨j, h⟩ else iprop((∃ f, slotp c (sl j) f) ∗ semVal (woC c (sl j)) 0)
/-- Before step k: four tiles on their way, the others in place. -/
def outSt (c : Dev nD) (k : ℕ) : sProp 𝕄 :=
  iprop((pend m c k ∗ pend m c (k + 1) ∗ pend m c (k + 2) ∗ pend m c (k + 3))
    ∗ (bigSep (Finset.range k) (tilAt m c)) ∗ (bigSep (Finset.Ico (k + 4) 28) (tilAt m c)))

theorem done_succ (c : Dev nD) (k : ℕ) : bigSep (Finset.range (k + 1)) (tilAt m c) = iprop(tilAt m c k ∗ bigSep (Finset.range k) (tilAt m c)) := by
  rw [Finset.range_add_one]; exact bigSep_insert Finset.notMem_range_self
theorem todo_succ (c : Dev nD) (k : ℕ) (hk : k < 28) :
    bigSep (Finset.Ico k 28) (tilAt m c) = iprop(tilAt m c k ∗ bigSep (Finset.Ico (k + 1) 28) (tilAt m c)) := by
  rw [show Finset.Ico k 28 = insert k (Finset.Ico (k + 1) 28) by ext i; simp only [Finset.mem_insert, Finset.mem_Ico]; omega]
  exact bigSep_insert (by simp)

theorem maybeOut_wp {α : Type} (c : Dev nD) (k : Fin 24) (p : K F α) (Q : α → sProp 𝕄) :
    iprop((∃ f, slotp c (slo k) f) ∗ tilAt m c (k.val + 4) ∗ semVal (woC c (slo k)) 0)
      ⊢ iprop((pend m c (k.val + 4) -∗ WP c p Q) -∗ WP c (if h : k.val + 4 < 24 then issueOut ⟨k.val + 4, h⟩ >>= fun _ => p else p) Q) := by
  have hs : sl (k.val + 4) = slo k := Fin.ext (show (k.val + 4) % 4 = k.val % 4 by omega)
  unfold tilAt pend
  by_cases h : k.val + 4 < 24
  · rw [dif_pos h, dif_pos h, dif_pos h, WP_bind, ← hs]
    exact issueOut_wp m c ⟨k.val + 4, h⟩ fun _ => WP c p Q
  · rw [dif_neg h, dif_neg h, dif_neg h, hs]
    iintro ⟨Hs, -, Hv⟩ Hk
    iapply Hk
    isplitl [Hs]; · iexact Hs
    iexact Hv

/-! ## Tiles -/

theorem tile_wp (c : Dev nD) (k : Fin 24) (xf : Vec F S256x2048 .bf16) (acc : FVec F S256x2048 .f32) {L : List (Pay nD τ sig)} (hl : Above 0 L)
    (Q : FVec F S256x2048 .f32 → sProp 𝕄) :
    iprop(Ctx m N ∗ midIn m c (lay k).val (til k).val ∗ outSt m c k.val ∗ owe c L)
      ⊢ iprop(((midIn m c (lay k).val ((til k).val + 1) ∗ outSt m c (k.val + 1) ∗ owe c L)
            -∗ Q (k0_pay4 xf acc (wV m c (lay k).val (til k)) (bV m c (lay k).val (til k)))) -∗ WP c (tile k xf acc) Q) := by
  simp only [tile, WP_bind]
  rw [show midIn m c (lay k).val (til k).val = iprop(wip c (wi m c (lay k).val) ∗ semVal (wiC c) 0 ∗ three (winp m c)) from if_pos (til k).isLt]
  unfold outSt
  rw [todo_succ m c (k.val + 4) (by omega), done_succ m c k.val, show pend m c k.val = outFl m c k from dif_pos k.isLt,
    show tilAt m c k.val = tilp m c (lay k) (til k) from dif_pos k.isLt]
  iintro ⟨#HC, ⟨Hd, Hv, Hw⟩, ⟨⟨P0, P1, P2, P3⟩, HD, HT, HR⟩, HO⟩ Hk
  iapply (load_wi m c (lay k).val (til k) _) $$ Hd
  iintro Hd
  iapply (maybeIn_wp m c k _ Q) $$ [Hd Hv Hw]
  · isplitl [Hd]; · iexact Hd
    isplitl [Hv]; · iexact Hv
    iexact Hw
  iintro HI
  simp only [WP_bind]
  iapply (waitOut_wp m N c k hl _) $$ [P0 HO]
  · isplitr; · iexact HC
    isplitl [P0]; · iexact P0
    iexact HO
  iintro ⟨Hs, Ht, Hv, HO⟩
  iapply (load_slot m c (slo k) (lay k).val (til k) _) $$ Hs
  iintro Hs
  iapply (maybeOut_wp m c k _ Q) $$ [Hs HT Hv]
  · isplitl [Hs]; · iexact Hs
    isplitl [HT]; · iexact HT
    iexact Hv
  iintro P4
  iapply WP_pure
  iapply Hk
  isplitl [HI]; · iexact HI
  isplitr [HO]
  · isplitl [P1 P2 P3 P4]
    · isplitl [P1]; · iexact P1
      isplitl [P2]; · iexact P2
      isplitl [P3]; · iexact P3
      iexact P4
    isplitl [Ht HD]
    · isplitl [Ht]; · iexact Ht
      iexact HD
    iexact HR
  iexact HO

theorem tiles_wp (c : Dev nD) (l : Fin 3) (xf : Vec F S256x2048 .bf16) {L : List (Pay nD τ sig)} (hl : Above 0 L) :
    ∀ (n : ℕ) (h : n ≤ 8) (Q : FVec F S256x2048 .f32 → sProp 𝕄),
    iprop(Ctx m N ∗ midIn m c l.val 0 ∗ outSt m c (8 * l.val) ∗ owe c L)
      ⊢ iprop(((midIn m c l.val n ∗ outSt m c (8 * l.val + n) ∗ owe c L) -∗ Q (accV m c l.val xf n h)) -∗ WP c (tiles l xf n h) Q)
  | 0, h, Q => by
    iintro ⟨-, HI, HS, HO⟩ Hk
    simp only [tiles, accV]
    iapply WP_pure
    iapply Hk
    isplitl [HI]; · iexact HI
    isplitl [HS]; · iexact HS
    iexact HO
  | n + 1, h, Q => by
    have hlay : lay ⟨8 * l.val + n, by omega⟩ = l := Fin.ext (show (8 * l.val + n) / 8 = l.val by omega)
    have htil : til ⟨8 * l.val + n, by omega⟩ = ⟨n, h⟩ := Fin.ext (show (8 * l.val + n) % 8 = n by omega)
    have ht := fun acc => tile_wp m N c ⟨8 * l.val + n, by omega⟩ xf acc hl Q
    rw [hlay, htil] at ht
    simp only [tiles, WP_bind]
    iintro ⟨#HC, H⟩ Hk
    iapply (tiles_wp c l xf hl n (Nat.le_of_succ_le h) _) $$ [H]
    · isplitr; · iexact HC
      iexact H
    iintro H
    iapply (ht (accV m c l.val xf n (Nat.le_of_succ_le h))) $$ [H]
    · isplitr; · iexact HC
      iexact H
    iexact Hk

/-! ## A layer's products -/

/-- The gathered activations; all of a device's. -/
def xfw (c : Dev nD) (f : Vec F S256x2048 .bf16) : sProp 𝕄 := XF.view.loc (c : Thread nD τ) ↦{fullShare} f

theorem load_xf (c : Dev nD) (f : Vec F S256x2048 .bf16) {hl} (Q : Vec F S256x2048 .bf16 → sProp 𝕄) :
    xfw c f ⊢ iprop((xfw c f -∗ Q f) -∗ WP c (Prog.lift (.load XF allR.toLoadRect hl)) Q) := by
  unfold xfw
  iintro H Hk
  simp only [Prog.lift]
  iapply (wp_load 𝒱₀ (c : Thread nD τ) none Set.univ (m := XF) (r := allR.toLoadRect) (S := Finset.univ) (q := fullShare) (f := f) (Finset.subset_univ _)) $$ H
  iintro H
  rw [wp_ret, show XF.view.readAt (Elt F) allR.toLoadRect f = f from Memref.readAt_unit_zero (Elt F) cc0_scratch0 (show (![0, 0] : Fin 2 → ℕ) = fun _ => 0 by decide) _ f]; imodintro
  iapply Hk; iexact H

theorem load_ptAll (c : Dev nD) (f : Vec F S256x2048 .f32) {hl} (Q : Vec F S256x2048 .f32 → sProp 𝕄) :
    ptp c f ⊢ iprop((∀ v, ptp c f -∗ Q v) -∗ WP c (Prog.lift (.load PT allR.toLoadRect hl)) Q) := by
  unfold ptp
  iintro H Hk
  simp only [Prog.lift]
  iapply (wp_load 𝒱₀ (c : Thread nD τ) none Set.univ (m := PT) (r := allR.toLoadRect) (S := Finset.univ) (q := fullShare) (f := f) (Finset.subset_univ _)) $$ H
  iintro H
  rw [wp_ret]; imodintro
  iapply Hk; iexact H

theorem store_ptAll (c : Dev nD) (f v : Vec F S256x2048 .f32) {hx hm} (Q : PUnit → sProp 𝕄) :
    ptp c f ⊢ iprop((ptp c v -∗ Q ⟨⟩) -∗ WP c (Prog.lift (.store PT allR v Finset.univ hx hm)) Q) := by
  unfold ptp
  iintro H Hk
  simp only [Prog.lift]
  iapply (wp_store 𝒱₀ (c : Thread nD τ) none Set.univ (m := PT) (r := allR) (w := v) (Mk := Finset.univ) (f := f) (S := Finset.univ) (Finset.subset_univ _)) $$ H
  iintro H
  rw [wp_ret, show (PT.access allR).write (Elt F) f v Finset.univ = v from Memref.write_access_unit_zero_univ (Elt F) cc0_scratch1 (show (![0, 0] : Fin 2 → ℕ) = fun _ => 0 by decide) _ f v]; imodintro
  iapply Hk; iexact H

theorem products_wp (c : Dev nD) (l : Fin 3) (X : Vec F S256x2048 .bf16) {L : List (Pay nD τ sig)} (hl : Above 0 L) (Q : PUnit → sProp 𝕄) :
    iprop(Ctx m N ∗ xfw c X ∗ (∃ f, ptp c f) ∗ inSt m c l.val ∗ outSt m c (8 * l.val) ∗ owe c L)
      ⊢ iprop(((xfw c X ∗ ptp c (partV m c l.val X) ∗ inSt m c (l.val + 1) ∗ outSt m c (8 * (l.val + 1)) ∗ owe c L) -∗ Q ⟨⟩)
          -∗ WP c (products l) Q) := by
  rw [show inSt m c l.val = iprop(inFl m c l ∗ winsBut m c l) from dif_pos l.isLt]
  simp only [products, WP_bind]
  iintro ⟨#HC, Hx, ⟨%f, Hp⟩, ⟨HI, HW⟩, HS, HO⟩ Hk
  iapply (load_xf c X _) $$ Hx
  iintro Hx
  iapply (waitIn_wp m N c l hl _) $$ [HI HO]
  · isplitr; · iexact HC
    isplitl [HI]; · iexact HI
    iexact HO
  iintro ⟨Hd, Hw, Hv, HO⟩
  iapply (tiles_wp m N c l X hl 8 (Nat.le_refl 8) _) $$ [Hd Hw HW Hv HS HO]
  · isplitr; · iexact HC
    isplitl [Hd Hw HW Hv]
    · unfold midIn
      rw [if_pos (by decide : 0 < 8)]
      isplitl [Hd]; · iexact Hd
      isplitl [Hv]; · iexact Hv
      iapply (wins_put m c l)
      isplitl [Hw]; · iexact Hw
      iexact HW
    isplitl [HS]; · iexact HS
    iexact HO
  iintro ⟨HI, HS, HO⟩
  iapply (load_ptAll c f _) $$ Hp
  iintro %v Hp
  iapply (store_ptAll c f _ Q) $$ Hp
  iintro Hp
  iapply Hk
  isplitl [Hx]; · iexact Hx
  isplitl [Hp]; · iexact Hp
  isplitl [HI]; · iapply (Entails.of_eq (show midIn m c l.val 8 = inSt m c (l.val + 1) from if_neg (by decide))); iexact HI
  isplitl [HS]; · iexact HS
  iexact HO

end Cert.Mlp

end
-- ==== Proof.Pieces.lean ====
/- Buffers held whole, and held in blocks. -/
module

public import proofs.«01_k».proof.Proof.Products

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-! ## Order and bracketing of ∗ -/

instance sepComm : _root_.Std.Commutative (fun P Q : sProp 𝕄 => iprop(P ∗ Q)) := ⟨fun P Q => BI.equiv_iff.mp ⟨BI.sep_comm, BI.sep_comm⟩⟩
instance sepAssoc : _root_.Std.Associative (fun P Q : sProp 𝕄 => iprop(P ∗ Q)) := ⟨fun P Q R => BI.equiv_iff.mp ⟨BI.sep_assoc, BI.sep_assoc'⟩⟩
theorem sepEmp (P : sProp 𝕄) : iprop(P ∗ emp) = P := BI.equiv_iff.mp BI.sep_emp

/-! ## Any buffer in any blocks -/

section Blocks
omit [FloatOps F]
variable {sp : Space} {s : Shape} {e : EltTy} {T : Type} [Fintype T] [DecidableEq T]

theorem blocks_disj (M : Memref sig .tc sp s e) (R : T → Rect s) (hd : ∀ p q, p ≠ q → Disjoint (R p).set (R q).set) :
    ∀ t ∈ (Finset.univ : Finset T), ∀ t' ∈ (Finset.univ : Finset T), t ≠ t' → Disjoint (M.access (R t)).set (M.access (R t')).set := by
  intro t _ t' _ h
  rw [View.set_slice, View.set_slice]
  exact (Finset.disjoint_map _).mpr (hd t t' h)

theorem blocks_cover (M : Memref sig .tc sp s e) (hM : M.view.set = Finset.univ) (R : T → Rect s)
    (hc : Finset.univ.biUnion (fun t => (R t).set) = Finset.univ) : Finset.univ.biUnion (fun t => (M.access (R t)).set) = (Finset.univ : Finset M.view.ty.Idx) := by
  rw [← hM]
  ext i
  constructor
  · intro h
    obtain ⟨t, -, ht⟩ := Finset.mem_biUnion.mp h
    rw [View.set_slice] at ht
    obtain ⟨x, -, rfl⟩ := Finset.mem_map.mp ht
    exact Finset.mem_map_of_mem _ (Finset.mem_univ x)
  · intro h
    obtain ⟨x, -, rfl⟩ := Finset.mem_map.mp h
    obtain ⟨t, -, ht⟩ := Finset.mem_biUnion.mp (hc.symm ▸ Finset.mem_univ x)
    refine Finset.mem_biUnion.mpr ⟨t, Finset.mem_univ t, ?_⟩
    rw [View.set_slice]
    exact Finset.mem_map_of_mem _ ht

/-- A buffer whole is its blocks. -/
theorem blocks_eq (c : Dev nD) (M : Memref sig .tc sp s e) (hM : M.view.set = Finset.univ) (R : T → Rect s)
    (hd : ∀ p q, p ≠ q → Disjoint (R p).set (R q).set) (hc : Finset.univ.biUnion (fun t => (R t).set) = Finset.univ)
    (q : PosShare TreeShare) (f : Buf (Elt F) (M.view.loc (c : Thread nD τ))) :
    (M.view.loc (c : Thread nD τ) ↦{q} f : sProp 𝕄)
      = bigSep Finset.univ fun t => ((M.access (R t)).loc (c : Thread nD τ) ↦[(M.access (R t)).set]{q} f) :=
  (congrArg (fun S : Finset M.view.ty.Idx => (M.view.loc (c : Thread nD τ) ↦[S]{q} f : sProp 𝕄)) (blocks_cover M hM R hc).symm).trans
    (pointsTo_biUnion (ℓ := M.view.loc (c : Thread nD τ)) Finset.univ (fun t => (M.access (R t)).set) (blocks_disj M R hd))

include m in
/-- Blocks at any contents are the whole at some. -/
theorem blocks_join (c : Dev nD) (M : Memref sig .tc sp s e) (hM : M.view.set = Finset.univ) (R : T → Rect s)
    (hd : ∀ p q, p ≠ q → Disjoint (R p).set (R q).set) (hc : Finset.univ.biUnion (fun t => (R t).set) = Finset.univ) :
    (bigSep Finset.univ fun t => iprop(∃ f : Buf (Elt F) (M.view.loc (c : Thread nD τ)), (M.access (R t)).loc (c : Thread nD τ) ↦[(M.access (R t)).set]{fullShare} f))
      ⊢ (iprop(∃ f, M.view.loc (c : Thread nD τ) ↦{fullShare} f) : sProp 𝕄) := by
  have hn : ∀ _ : T, Nonempty (Buf (Elt F) (M.view.loc (c : Thread nD τ))) := fun _ => ⟨m _⟩
  iintro H
  ihave H := (@BI.bigSep_exists_pi _ _ _ _ _ hn Finset.univ (fun (t : T) (f : Buf (Elt F) (M.view.loc (c : Thread nD τ))) =>
    ((M.access (R t)).loc (c : Thread nD τ) ↦[(M.access (R t)).set]{fullShare} f : sProp 𝕄))) $$ H
  icases H with ⟨%fs, H⟩
  ihave H := (pointsTo_biUnion_join (ℓ := M.view.loc (c : Thread nD τ)) (q := fullShare) Finset.univ (fun t => (M.access (R t)).set) fs (m _) (blocks_disj M R hd)) $$ H
  icases H with ⟨%g, -, H⟩
  iexists g
  iapply (Entails.of_eq (congrArg (fun S : Finset M.view.ty.Idx => (M.view.loc (c : Thread nD τ) ↦[S]{fullShare} g : sProp 𝕄)) (blocks_cover M hM R hc)))
  iexact H

theorem blocks_any (c : Dev nD) (M : Memref sig .tc sp s e) (hM : M.view.set = Finset.univ) (R : T → Rect s)
    (hd : ∀ p q, p ≠ q → Disjoint (R p).set (R q).set) (hc : Finset.univ.biUnion (fun t => (R t).set) = Finset.univ) :
    (iprop(∃ f, M.view.loc (c : Thread nD τ) ↦{fullShare} f) : sProp 𝕄)
      ⊢ (bigSep Finset.univ fun t => iprop(∃ f : Buf (Elt F) (M.view.loc (c : Thread nD τ)), (M.access (R t)).loc (c : Thread nD τ) ↦[(M.access (R t)).set]{fullShare} f)) := by
  refine exists_elim fun f => (Entails.of_eq (blocks_eq c M hM R hd hc fullShare f)).trans (bigSep_mono fun t _ => BIClass.exists_intro (Φ := fun f : Buf (Elt F) (M.view.loc (c : Thread nD τ)) => ((M.access (R t)).loc (c : Thread nD τ) ↦[(M.access (R t)).set]{fullShare} f : sProp 𝕄)) f)

end Blocks

/-! ## The blocks of this kernel -/

theorem srows_disj (p q : Fin 3) (h : p ≠ q) : Disjoint (srows p).set (srows q).set :=
  Rect.unit_disjoint 0 (by
    have : p.val ≠ q.val := fun e => h (Fin.ext e)
    show 64 * p.val + 64 ≤ 64 * q.val ∨ 64 * q.val + 64 ≤ 64 * p.val
    omega)
theorem srows_cover : (Finset.univ : Finset (Fin 3)).biUnion (fun q => (srows q).set) = Finset.univ := by
  ext i
  simp only [Finset.mem_biUnion, Finset.mem_univ, true_and, iff_true]
  have h0 : (i 0).val < 192 := (i 0).isLt
  have h1 : (i 1).val < 2048 := (i 1).isLt
  refine ⟨⟨(i 0).val / 64, by omega⟩, Rect.mem_set_unit.mpr (Fin.forall_fin_two.mpr ⟨?_, ?_⟩)⟩
  · show 64 * ((i 0).val / 64) ≤ (i 0).val ∧ (i 0).val < 64 * ((i 0).val / 64) + 64
    omega
  · show 0 ≤ (i 1).val ∧ (i 1).val < 0 + 2048
    omega

theorem tileR_disj (p q : Fin 8) (h : p ≠ q) : Disjoint (tileR p).set (tileR q).set :=
  Rect.unit_disjoint 0 (by
    have : p.val ≠ q.val := fun e => h (Fin.ext e)
    show 512 * p.val + 512 ≤ 512 * q.val ∨ 512 * q.val + 512 ≤ 512 * p.val
    omega)
theorem tileR_cover : (Finset.univ : Finset (Fin 8)).biUnion (fun q => (tileR q).set) = Finset.univ := by
  ext i
  simp only [Finset.mem_biUnion, Finset.mem_univ, true_and, iff_true]
  have h0 : (i 0).val < 4096 := (i 0).isLt
  have h1 : (i 1).val < 2048 := (i 1).isLt
  refine ⟨⟨(i 0).val / 512, by omega⟩, Rect.mem_set_unit.mpr (Fin.forall_fin_two.mpr ⟨?_, ?_⟩)⟩
  · show 512 * ((i 0).val / 512) ≤ (i 0).val ∧ (i 0).val < 512 * ((i 0).val / 512) + 512
    omega
  · show 0 ≤ (i 1).val ∧ (i 1).val < 0 + 2048
    omega

theorem slotR_disj (p q : Fin 4) (h : p ≠ q) : Disjoint (slotR p).set (slotR q).set :=
  Rect.unit_disjoint 0 (by
    have : p.val ≠ q.val := fun e => h (Fin.ext e)
    show p.val + 1 ≤ q.val ∨ q.val + 1 ≤ p.val
    omega)
theorem slotR_cover : (Finset.univ : Finset (Fin 4)).biUnion (fun q => (slotR q).set) = Finset.univ := by
  ext i
  simp only [Finset.mem_biUnion, Finset.mem_univ, true_and, iff_true]
  have h0 : (i 0).val < 4 := (i 0).isLt
  have h1 : (i 1).val < 512 := (i 1).isLt
  have h2 : (i 2).val < 2048 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 2048; omega

/-- A device's own and the three others'. -/
theorem four_eq (c : Dev nD) (Φ : Fin 4 → sProp 𝕄) : bigSep Finset.univ Φ = iprop(Φ c ∗ three fun r => Φ (pr r c)) := by
  rw [bigSep_univ_eq_bigSepL [c, pr 0 c, pr 1 c, pr 2 c] (univ_pr c) (nodup_pr c), bigSepL_cons_cons, bigSepL_cons_cons, bigSepL_cons_cons, bigSepL_singleton]
  rfl
theorem three_eq (Φ : Fin 3 → sProp 𝕄) : bigSep Finset.univ Φ = three Φ := by
  rw [bigSep_univ_eq_bigSepL [0, 1, 2] (by decide) (by decide), bigSepL_cons_cons, bigSepL_cons_cons, bigSepL_singleton]
  rfl
theorem three_sep (P Q : Fin 3 → sProp 𝕄) : (three fun r => iprop(P r ∗ Q r)) = iprop(three P ∗ three Q) := by
  unfold three; dsimp only; ac_rfl
theorem three_mono {P Q : Fin 3 → sProp 𝕄} (h : ∀ r, P r ⊢ Q r) : three P ⊢ three Q := by
  unfold three; exact BI.sep_mono (h 0) (BI.sep_mono (h 1) (h 2))
theorem three_with {R : sProp 𝕄} [BI.Persistent R] {P Q : Fin 3 → sProp 𝕄} (h : ∀ r, iprop(R ∗ P r) ⊢ Q r) : iprop(R ∗ three P) ⊢ three Q := by
  unfold three
  iintro ⟨#HR, H0, H1, H2⟩
  isplitl [H0]
  · iapply (h 0); isplitr; · iexact HR
    iexact H0
  isplitl [H1]
  · iapply (h 1); isplitr; · iexact HR
    iexact H1
  iapply (h 2); isplitr; · iexact HR
  iexact H2

theorem xf_eq (c : Dev nD) (f : Vec F S256x2048 .bf16) :
    xfw c f = iprop(xfp c c fullShare f ∗ three fun r => xfp c (pr r c) fullShare f) :=
  (blocks_eq c XF (View.set_whole _) rows rows_disj rows_cover fullShare f).trans (four_eq c fun q => xfp c q fullShare f)

/-- The buffers for received sums, for sums to send, for the four tiles; layer l's second weights. -/
def rvw (c : Dev nD) : sProp 𝕄 := iprop(∃ f, RV.view.loc (c : Thread nD τ) ↦{fullShare} f)
@[inherit_doc rvw] def sbw (c : Dev nD) : sProp 𝕄 := iprop(∃ f, SB.view.loc (c : Thread nD τ) ↦{fullShare} f)
@[inherit_doc rvw] def wow (c : Dev nD) : sProp 𝕄 := iprop(∃ f, WO.view.loc (c : Thread nD τ) ↦{fullShare} f)
@[inherit_doc rvw] def woutp (c : Dev nD) (l : Fin 3) : sProp 𝕄 := (wOut l).view.loc (c : Thread nD τ) ↦{fullShare} m ((wOut l).view.loc (c : Thread nD τ))

theorem xf_any (c : Dev nD) : (iprop(∃ f, xfw c f) : sProp 𝕄) ⊢ iprop((∃ f, xfp c c fullShare f) ∗ three fun r => iprop(∃ f, xfp c (pr r c) fullShare f)) :=
  (blocks_any c XF (View.set_whole _) rows rows_disj rows_cover).trans (Entails.of_eq (four_eq c fun q => iprop(∃ f, xfp c q fullShare f)))
theorem rv_any (c : Dev nD) : (rvw c : sProp 𝕄) ⊢ iprop((∃ f, rvp c c f) ∗ three fun r => iprop(∃ f, rvp c (pr r c) f)) :=
  (blocks_any c RV (View.set_whole _) rows rows_disj rows_cover).trans (Entails.of_eq (four_eq c fun q => iprop(∃ f, rvp c q f)))
include m in
theorem rv_join (c : Dev nD) : iprop((∃ f, rvp c c f) ∗ three fun r => iprop(∃ f, rvp c (pr r c) f)) ⊢ (rvw c : sProp 𝕄) :=
  (Entails.of_eq (four_eq c fun q => iprop(∃ f, rvp c q f)).symm).trans (blocks_join m c RV (View.set_whole _) rows rows_disj rows_cover)
theorem sb_any (c : Dev nD) : (sbw c : sProp 𝕄) ⊢ three fun r => iprop(∃ f, sbp c r f) :=
  (blocks_any c SB (View.set_whole _) srows srows_disj srows_cover).trans (Entails.of_eq (three_eq fun q => iprop(∃ f, sbp c q f)))
include m in
theorem sb_join (c : Dev nD) : (three fun r => iprop(∃ f, sbp c r f)) ⊢ (sbw c : sProp 𝕄) :=
  (Entails.of_eq (three_eq fun q => iprop(∃ f, sbp c q f)).symm).trans (blocks_join m c SB (View.set_whole _) srows srows_disj srows_cover)

theorem slots_eq (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
theorem wo_any (c : Dev nD) : (wow c : sProp 𝕄)
    ⊢ iprop((∃ f, slotp c 0 f) ∗ (∃ f, slotp c 1 f) ∗ (∃ f, slotp c 2 f) ∗ (∃ f, slotp c 3 f)) :=
  (blocks_any c WO (View.set_whole _) slotR slotR_disj slotR_cover).trans (Entails.of_eq (slots_eq fun q => iprop(∃ f, slotp c q f)))
include m in
theorem wo_join (c : Dev nD) : iprop((∃ f, slotp c 0 f) ∗ (∃ f, slotp c 1 f) ∗ (∃ f, slotp c 2 f) ∗ (∃ f, slotp c 3 f)) ⊢ (wow c : sProp 𝕄) :=
  (Entails.of_eq (slots_eq fun q => iprop(∃ f, slotp c q f)).symm).trans (blocks_join m c WO (View.set_whole _) slotR slotR_disj slotR_cover)

theorem wOut_set : ∀ l : Fin 3, (wOut l).view.set = Finset.univ
  | 0 => View.set_whole _
  | 1 => View.set_whole _
  | 2 => View.set_whole _
theorem wIn_set : ∀ l : Fin 3, (wIn l).view.set = Finset.univ
  | 0 => View.set_whole _
  | 1 => View.set_whole _
  | 2 => View.set_whole _
theorem wout_eq (c : Dev nD) (l : Fin 3) : woutp m c l = bigSep Finset.univ fun t => tilp m c l t :=
  blocks_eq c (wOut l) (wOut_set l) tileR tileR_disj tileR_cover fullShare _

/-- Layer l's tiles, numbered among the 24; the last four numbers are of none. -/
theorem til_layer (c : Dev nD) (l : Fin 3) : bigSep (Finset.Ico (8 * l.val) (8 * l.val + 8)) (tilAt m c) = bigSep Finset.univ fun t => tilp m c l t := by
  rw [show Finset.Ico (8 * l.val) (8 * l.val + 8) = (Finset.univ : Finset (Fin 8)).map ⟨fun t => 8 * l.val + t.val, fun a b h => Fin.ext (Nat.add_left_cancel h)⟩ by
    revert l; decide, bigSep_map]
  refine bigSep_congr fun t _ => ?_
  have h : 8 * l.val + t.val < 24 := by omega
  have hl : lay ⟨8 * l.val + t.val, h⟩ = l := Fin.ext (by show (8 * l.val + t.val) / 8 = l.val; omega)
  have ht : til ⟨8 * l.val + t.val, h⟩ = t := Fin.ext (by show (8 * l.val + t.val) % 8 = t.val; omega)
  show tilAt m c (8 * l.val + t.val) = _
  unfold tilAt
  rw [dif_pos h, hl, ht]
@[inherit_doc til_layer] theorem til_none (c : Dev nD) : bigSep (Finset.Ico 24 28) (tilAt m c) = iprop(emp) := by
  have h (j : ℕ) (hj : 24 ≤ j) : tilAt m c j = iprop(emp) := dif_neg (by omega)
  rw [todo_succ m c 24 (by omega), todo_succ m c 25 (by omega), todo_succ m c 26 (by omega), todo_succ m c 27 (by omega),
    h 24 (by omega), h 25 (by omega), h 26 (by omega), h 27 (by omega), Finset.Ico_self, bigSep_empty]
  show iprop(emp ∗ emp ∗ emp ∗ emp ∗ emp) = (iprop(emp) : sProp 𝕄)
  simp only [sepEmp]

/-- All second weights in place are the 24 tiles. -/
theorem til_done (c : Dev nD) : three (woutp m c) = bigSep (Finset.range 24) (tilAt m c) := by
  unfold three
  rw [wout_eq, wout_eq, wout_eq, ← til_layer m c 0, ← til_layer m c 1, ← til_layer m c 2,
    show Finset.range 24 = Finset.Ico 0 8 ∪ (Finset.Ico 8 16 ∪ Finset.Ico 16 24) by decide,
    bigSep_union (by decide), bigSep_union (by decide)]
  rfl
theorem til_todo (c : Dev nD) : three (woutp m c) = bigSep (Finset.Ico 0 28) (tilAt m c) := by
  rw [til_done, show Finset.Ico 0 28 = Finset.range 24 ∪ Finset.Ico 24 28 by decide, bigSep_union (by decide), til_none]
  exact (sepEmp _).symm

theorem winp_eq (c : Dev nD) (l : Fin 3) :
    winp m c l = ((wIn l).view.loc (c : Thread nD τ) ↦{fullShare} m ((wIn l).view.loc (c : Thread nD τ)) : sProp 𝕄) :=
  congrArg (fun S : Finset (wIn l).view.ty.Idx => ((wIn l).view.loc (c : Thread nD τ) ↦[S]{fullShare} m ((wIn l).view.loc (c : Thread nD τ)) : sProp 𝕄)) (wIn_set l)

/-- A device's semaphores, its own towards itself apart from those of the three devices it deals with. -/
theorem cells_eq (c : Dev nD) (Φ : CI → sProp 𝕄) : bigSep Finset.univ Φ
    = iprop((Φ .bar ∗ Φ (.agr c) ∗ Φ (.rsr c)) ∗ (three fun r => Φ (.ags r)) ∗ (three fun r => Φ (.agr (pr r c)))
      ∗ (three fun r => Φ (.rss r)) ∗ three fun r => Φ (.rsr (pr r c))) := by
  rw [bigSep_univ_eq_bigSepL [.bar, .agr c, .rsr c, .ags 0, .ags 1, .ags 2, .agr (pr 0 c), .agr (pr 1 c), .agr (pr 2 c), .rss 0, .rss 1, .rss 2,
    .rsr (pr 0 c), .rsr (pr 1 c), .rsr (pr 2 c)] (by revert c; decide) (by revert c; decide)]
  simp only [bigSepL_cons_cons, bigSepL_singleton]
  unfold three
  dsimp only
  show (iprop(_ ∗ _ ∗ _ ∗ _ ∗ _ ∗ _ ∗ _ ∗ _ ∗ _ ∗ _ ∗ _ ∗ _ ∗ _ ∗ _ ∗ _) : sProp 𝕄) = _
  ac_rfl

end Cert.Mlp

end
-- ==== Proof.BodyEq.lean ====
/- The kernel's body is the pieces one after another. -/
module

public import proofs.«01_k».proof.Proof.Prog
public import Idealize.ShloMosaic.Lib.Pipeline.Regions

@[expose] public section

noncomputable section

namespace Cert.Mlp

open Cert.KernelIdeal Cert.KernelIdeal.Gen
open Idealize.ShloMosaic Idealize.ShloMosaic.TcCoe
open Idealize.SL.Sem

variable {F : FTy → Type} [FloatOps F]

set_option maxRecDepth 1000000 in
set_option maxHeartbeats 0 in
/-- The kernel's body is the pieces one after another. -/
theorem body_eq : bodyAt0 (F := F) t0_0 = prog := by
  rw [bodyAt0, cc0_body_eq_skeleton]
  chain_rfl

end Cert.Mlp

end
-- ==== Proof.Layers.lean ====
/- One layer. -/
module

public import proofs.«01_k».proof.Proof.Pieces
public import proofs.«01_k».proof.Proof.BodyEq

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-! ## Between layers -/

/-- The block for received sums, once nobody is to use it any more. -/
def retRV (c : Dev nD) (k : ℕ) (r : Fin 3) : sProp 𝕄 := if k < 3 then iprop(emp) else iprop(∃ f, rvp c (pr r c) f)
/-- What the device has of its dealings with the device pr r c before layer k. -/
def layIn (c : Dev nD) (k : ℕ) (r : Fin 3) : sProp 𝕄 := iprop(agPost m c k r ∗ rsPos c k r ∗ (∃ f, sbp c r f) ∗ retRV c k r)
/-- Before layer k. -/
def LSt (c : Dev nD) (k : ℕ) : sProp 𝕄 :=
  iprop(three (layIn m c k) ∗ xfp c c fullShare (actV m k) ∗ (∃ f, ptp c f) ∗ inSt m c k ∗ outSt m c (8 * k) ∗ owe c (due c (3 - k)))

/-- What stays with the device while it multiplies. -/
def layMid (c : Dev nD) (k : ℕ) (r : Fin 3) : sProp 𝕄 :=
  iprop(agPos c (k + 1) r ∗ giveRV (pr r c) c k ∗ rsPos c k r ∗ (∃ f, sbp c r f))

theorem lay_open (c : Dev nD) (k : ℕ) (hk : k < 3) : three (layIn m c k) ⊢ iprop((three fun r => xfp c (pr r c) fullShare (actV m k)) ∗ three (layMid c k)) := by
  rw [← three_sep]
  refine three_mono fun r => ?_
  unfold layIn agPost layMid
  iintro ⟨⟨Hp, Hx, Hg⟩, Hq, Hs, -⟩
  isplitl [Hx]; · iexact Hx
  isplitl [Hp]; · iexact Hp
  isplitl [Hg]; · iexact Hg
  isplitl [Hq] <;> iassumption

theorem to_reduce (c : Dev nD) (k : ℕ) (hk : k < 3) (X : Vec F S256x2048 .bf16) :
    iprop((three fun r => xfp c (pr r c) fullShare X) ∗ three (layMid c k) ∗ three (rsTok c k)) ⊢ iprop(three (rsPre c k) ∗ three (agPos (F := F) c (k + 1))) := by
  rw [← three_sep, ← three_sep, ← three_sep]
  refine three_mono fun r => ?_
  unfold layMid rsPre
  rw [show agPos (F := F) c (k + 1) r = iprop(atPos ER (cell c (.ags r)) (k + 1) ∅ 0 ∗ reached ER (cell c (.ags r)) (k + 1) ∗ atPos ER (cell c (.agr (pr r c))) (k + 1) ∅ 0
    ∗ reached ER (cell c (.agr (pr r c))) (k + 1)) from rfl,
    show (giveRV (pr r c) c k : sProp 𝕄) = rsRight c (pr r c) k from if_pos hk]
  iintro ⟨Hx, ⟨⟨Ha, Hb, He, #Hr⟩, Hg, Hq, Hs⟩, Ht⟩
  isplitr [Ha Hb He]
  · isplitl [Ht]; · iexact Ht
    isplitl [Hq]; · iexact Hq
    isplitl [Hg]; · iexact Hg
    isplitl [Hs]; · iexact Hs
    unfold giveXF
    isplitl [Hx]
    · iexists X; iexact Hx
    · iexact Hr
  · isplitl [Ha]; · iexact Ha
    isplitl [Hb]; · iexact Hb
    isplitl [He]; · iexact He
    iexact Hr

/-- What stays with the device while it gathers. -/
def layLate (c : Dev nD) (k : ℕ) (r : Fin 3) : sProp 𝕄 := iprop(rsPos c k r ∗ (∃ f, sbp c r f) ∗ retRV c k r)

theorem to_gather (c : Dev nD) (k : ℕ) :
    iprop(three (rsPost c k) ∗ three (agPos (F := F) c (k + 1)) ∗ three (agTok c (k + 1))) ⊢ iprop(three (agPre c (k + 1)) ∗ three (layLate (F := F) c (k + 1))) := by
  rw [← three_sep, ← three_sep, ← three_sep]
  refine three_mono fun r => ?_
  unfold rsPost layLate agPre
  rw [show rsPos (F := F) c (k + 1) r = iprop(atPos ER (cell c (.rss r)) (k + 1) ∅ 0 ∗ reached ER (cell c (.rss r)) (k + 1) ∗ atPos ER (cell c (.rsr (pr r c))) (k + 1) ∅ 0
    ∗ reached ER (cell c (.rsr (pr r c))) (k + 1)) from rfl,
    show (giveXF (pr r c) c k : sProp 𝕄) = agRight c (pr r c) (k + 1) from rfl]
  unfold giveRV retRV
  iintro ⟨⟨⟨Ha, Hb, He, #Hr⟩, Hs, Hv, Hx⟩, Hp, Ht⟩
  by_cases hk : k + 1 < 3
  · rw [if_pos hk, if_pos hk]
    isplitl [Ht Hp Hx Hv]
    · isplitl [Ht]; · iexact Ht
      isplitl [Hp]; · iexact Hp
      isplitl [Hx]; · iexact Hx
      isplitl [Hv]; · iexact Hv
      iexact Hr
    · isplitl [Ha Hb He]
      · isplitl [Ha]; · iexact Ha
        isplitl [Hb]; · iexact Hb
        isplitl [He]; · iexact He
        iexact Hr
      isplitl [Hs]; · iexact Hs
      iempintro
  · rw [if_neg hk, if_neg hk]
    isplitl [Ht Hp Hx]
    · isplitl [Ht]; · iexact Ht
      isplitl [Hp]; · iexact Hp
      isplitl [Hx]; · iexact Hx
      iempintro
    · isplitl [Ha Hb He]
      · isplitl [Ha]; · iexact Ha
        isplitl [Hb]; · iexact Hb
        isplitl [He]; · iexact He
        iexact Hr
      isplitl [Hs] <;> iassumption

theorem lay_close (c : Dev nD) (k : ℕ) : iprop(three (agPost m c k) ∗ three (layLate c k)) ⊢ three (layIn m c k) := by
  rw [← three_sep]
  exact three_mono fun r => BI.Entails.refl _

theorem due_lay (c : Dev nD) : ∀ l : Fin 3, due c (3 - l.val) = payRS c l.val ++ (payAG c (l.val + 1) ++ due c (3 - (l.val + 1)))
  | 0 => rfl
  | 1 => rfl
  | 2 => rfl
theorem above_lay (c : Dev nD) (l : Fin 3) : Above 0 (due c (3 - l.val)) := (above_due c (3 - l.val) (by omega)).mono (Nat.zero_le _)
theorem above_lay' (c : Dev nD) (l : Fin 3) : Above (2 + 2 * (l.val + 1)) (due c (3 - (l.val + 1))) := (above_due c (3 - (l.val + 1)) (by omega)).mono (by omega)

theorem layer_wp (c : Dev nD) (l : Fin 3) (Q : PUnit → sProp 𝕄) :
    iprop(Ctx m N ∗ LSt m c l.val ∗ three (rsTok c l.val) ∗ three (agTok c (l.val + 1))) ⊢ iprop((LSt m c (l.val + 1) -∗ Q ⟨⟩) -∗ WP c (layer c l) Q) := by
  unfold layer
  rw [show LSt m c l.val = iprop(three (layIn m c l.val) ∗ xfp c c fullShare (actV m l.val) ∗ (∃ f, ptp c f) ∗ inSt m c l.val ∗ outSt m c (8 * l.val) ∗ owe c (due c (3 - l.val))) from rfl, due_lay]
  iintro ⟨#HC, HL, Hrt, Hat⟩ Hk
  icases HL with ⟨Hl, Hx, Hp, Hi, Ho, HO⟩
  ihave Hl := (lay_open m c l.val l.isLt) $$ Hl
  icases Hl with ⟨Hxs, Hl⟩
  simp only [WP_bind]
  iapply (products_wp m N c l (actV m l.val) (due_lay c l ▸ above_lay c l) _) $$ [Hx Hxs Hp Hi Ho HO]
  · isplitr; · iexact HC
    isplitl [Hx Hxs]
    · iapply (Entails.of_eq (xf_eq c (actV m l.val)).symm)
      isplitl [Hx] <;> iassumption
    isplitl [Hp]; · iexact Hp
    isplitl [Hi]; · iexact Hi
    isplitl [Ho] <;> iassumption
  iintro ⟨Hx, Hp, Hi, Ho, HO⟩
  ihave Hx := (Entails.of_eq (xf_eq c (actV m l.val))) $$ Hx
  icases Hx with ⟨Hx, Hxs⟩
  ihave H := (to_reduce c l.val l.isLt (actV m l.val)) $$ [Hxs Hl Hrt]
  · isplitl [Hxs]; · iexact Hxs
    isplitl [Hl] <;> iassumption
  icases H with ⟨Hr, Hap⟩
  iapply (reduce_wp m N c l.val l.isLt ((above_AG c (k := l.val + 1) (by omega) (by omega)).app ((above_lay' c l).mono (by omega))) _) $$ [Hr Hp Hx HO]
  · isplitr; · iexact HC
    isplitl [Hr]; · iexact Hr
    isplitl [Hp]; · iexact Hp
    isplitl [Hx]
    · iexists (actV m l.val); iexact Hx
    iexact HO
  iintro ⟨Hr, Hp, Hx, HO⟩
  ihave H := (to_gather c l.val) $$ [Hr Hap Hat]
  · isplitl [Hr]; · iexact Hr
    isplitl [Hap] <;> iassumption
  icases H with ⟨Hg, Hl⟩
  iapply (gather_wp m N c (l.val + 1) (by omega) (above_lay' c l) _) $$ [Hg Hx HO]
  · isplitr; · iexact HC
    isplitl [Hg]; · iexact Hg
    isplitl [Hx] <;> iassumption
  iintro ⟨Hg, Hx, HO⟩
  iapply Hk
  unfold LSt
  isplitl [Hg Hl]
  · iapply (lay_close m c (l.val + 1))
    isplitl [Hg] <;> iassumption
  isplitl [Hx]; · iexact Hx
  isplitl [Hp]
  · iexists (partV m c l.val (actV m l.val)); iexact Hp
  isplitl [Hi]; · iexact Hi
  isplitl [Ho] <;> iassumption

end Cert.Mlp

end
-- ==== Proof.Whole.lean ====
/- The whole body. -/
module

public import proofs.«01_k».proof.Proof.Layers

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (N : Dev nD × CI → ℕ)

/-! ## What a device starts and ends with -/

/-- Tokens and credits. -/
def toks (c : Dev nD) : sProp 𝕄 :=
  iprop((three fun r => dutyTok ER (cell (pr r c) .bar) 0 r) ∗ cred (tallyAt (cell c .bar) 1 3)
    ∗ (three (agTok c 0) ∗ three (agTok c 1) ∗ three (agTok c 2) ∗ three (agTok c 3)) ∗ (three (rsTok c 0) ∗ three (rsTok c 1) ∗ three (rsTok c 2)))
/-- The kernel's buffers, at any contents. -/
def bufs (c : Dev nD) : sProp 𝕄 := iprop((∃ f, xfw c f) ∗ (∃ f, ptp c f) ∗ sbw c ∗ rvw c ∗ (∃ f, wip c f) ∗ wow c)
/-- The semaphores of the weights' transfers, at zero. -/
def wsems (c : Dev nD) : sProp 𝕄 :=
  iprop(semVal (wiC c) 0 ∗ semVal (woC c 0) 0 ∗ semVal (woC c 1) 0 ∗ semVal (woC c 2) 0 ∗ semVal (woC c 3) 0)
/-- The weights. -/
def weights (c : Dev nD) : sProp 𝕄 := iprop(three (winp m c) ∗ three (woutp m c))
/-- The windows' buffers. -/
def xst (c : Dev nD) (f : Vec F S64x2048 .f32) : sProp 𝕄 := xM.view.loc (c : Thread nD τ) ↦{fullShare} f
@[inherit_doc xst] def ost (c : Dev nD) (f : Vec F S256x2048 .f32) : sProp 𝕄 := oM.view.loc (c : Thread nD τ) ↦{fullShare} f

/-! ## Before the layers -/

theorem issueOut_at (c : Dev nD) (k : Fin 24) (s : Fin 4) (hs : slo k = s) (Q : PUnit → sProp 𝕄) :
    iprop((∃ f, slotp c s f) ∗ tilp m c (lay k) (til k) ∗ semVal (woC c s) 0) ⊢ iprop((outFl m c k -∗ Q ⟨⟩) -∗ WP c (issueOut k) Q) := by
  subst hs
  exact issueOut_wp m c k Q

theorem startW_wp (c : Dev nD) (Q : PUnit → sProp 𝕄) :
    iprop((∃ f, wip c f) ∗ wow c ∗ wsems c ∗ weights m c) ⊢ iprop(((inSt m c 0 ∗ outSt m c 0) -∗ Q ⟨⟩) -∗ WP c startW Q) := by
  unfold startW wsems weights
  rw [til_todo, todo_succ m c 0 (by omega), todo_succ m c 1 (by omega), todo_succ m c 2 (by omega), todo_succ m c 3 (by omega),
    show tilAt m c 0 = tilp m c (lay 0) (til 0) from rfl, show tilAt m c 1 = tilp m c (lay 1) (til 1) from rfl,
    show tilAt m c 2 = tilp m c (lay 2) (til 2) from rfl, show tilAt m c 3 = tilp m c (lay 3) (til 3) from rfl]
  iintro ⟨Hi, Ho, ⟨Hv, H0, H1, H2, H3⟩, Hw, T0, T1, T2, T3, HT⟩ Hk
  ihave Hw := (wins_take m c 0) $$ Hw
  icases Hw with ⟨Hw, Hws⟩
  ihave Ho := (wo_any c) $$ Ho
  icases Ho with ⟨O0, O1, O2, O3⟩
  simp only [WP_bind]
  iapply (issueIn_wp m c 0 _) $$ [Hi Hw Hv]
  · isplitl [Hi]; · iexact Hi
    isplitl [Hw] <;> iassumption
  iintro Hin
  iapply (issueOut_at m c 0 0 rfl _) $$ [O0 T0 H0]
  · isplitl [O0]; · iexact O0
    isplitl [T0] <;> iassumption
  iintro O0
  iapply (issueOut_at m c 1 1 rfl _) $$ [O1 T1 H1]
  · isplitl [O1]; · iexact O1
    isplitl [T1] <;> iassumption
  iintro O1
  iapply (issueOut_at m c 2 2 rfl _) $$ [O2 T2 H2]
  · isplitl [O2]; · iexact O2
    isplitl [T2] <;> iassumption
  iintro O2
  iapply (issueOut_at m c 3 3 rfl _) $$ [O3 T3 H3]
  · isplitl [O3]; · iexact O3
    isplitl [T3] <;> iassumption
  iintro O3
  iapply Hk
  rw [show inSt m c 0 = iprop(inFl m c 0 ∗ winsBut m c 0) from rfl,
    show outSt m c 0 = iprop((outFl m c 0 ∗ outFl m c 1 ∗ outFl m c 2 ∗ outFl m c 3) ∗ (bigSep (Finset.range 0) (tilAt m c)) ∗ (bigSep (Finset.Ico 4 28) (tilAt m c))) from rfl,
    Finset.range_zero, bigSep_empty]
  isplitl [Hin Hws]
  · isplitl [Hin] <;> iassumption
  isplitl [O0 O1 O2 O3]
  · isplitl [O0]; · iexact O0
    isplitl [O1]; · iexact O1
    isplitl [O2] <;> iassumption
  isplitr
  · iempintro
  iexact HT

theorem from_bar (c : Dev nD) :
    iprop((∃ f, xfp (bk 0 c) c fullShare f) ∗ (∃ f, xfp (bk 1 c) c fullShare f) ∗ (∃ f, xfp (bk 2 c) c fullShare f))
      ⊢ (three fun r => iprop(∃ f, xfp (pr r c) c fullShare f) : sProp 𝕄) := by
  unfold three
  rw [show bk 0 c = pr 2 c by revert c; decide, show bk 1 c = pr 1 c by revert c; decide, show bk 2 c = pr 0 c by revert c; decide]
  iintro ⟨H0, H1, H2⟩
  isplitl [H2]; · iexact H2
  isplitl [H1] <;> iassumption

theorem meet_wp (c : Dev nD) {l : List (Pay nD τ sig)} (hl : Above 1 l) (Q : PUnit → sProp 𝕄) :
    iprop(Ctx m N ∗ (three fun r => iprop(∃ f, xfp c (pr r c) fullShare f)) ∗ (three fun r => dutyTok ER (cell (pr r c) .bar) 0 r)
        ∗ cred (tallyAt (cell c .bar) 1 3) ∗ atPos ER (cell c .bar) 0 ∅ 0 ∗ owe c (payBar c ++ l))
      ⊢ iprop(((owe c l ∗ atPos ER (cell c .bar) 1 ∅ 0 ∗ three fun r => iprop(∃ f, xfp (pr r c) c fullShare f)) -∗ Q ⟨⟩) -∗ WP c (meet c) Q) := by
  unfold meet
  rw [show payBar c ++ l = (cell (pr 0 c) .bar, 1, 1) :: (cell (pr 1 c) .bar, 1, 1) :: (cell (pr 2 c) .bar, 1, 1) :: l from rfl]
  iintro ⟨#HC, HX, HT, Hcr, Hat, HO⟩ Hk
  ihave HX := (Entails.of_eq (show (three fun r => iprop(∃ f, xfp c (pr r c) fullShare f) : sProp 𝕄)
    = iprop((∃ f, xfp c (pr 0 c) fullShare f) ∗ (∃ f, xfp c (pr 1 c) fullShare f) ∗ (∃ f, xfp c (pr 2 c) fullShare f)) from rfl)) $$ HX
  ihave HT := (Entails.of_eq (show (three fun r => dutyTok ER (cell (pr r c) .bar) 0 r : sProp 𝕄)
    = iprop(dutyTok ER (cell (pr 0 c) .bar) 0 0 ∗ dutyTok ER (cell (pr 1 c) .bar) 0 1 ∗ dutyTok ER (cell (pr 2 c) .bar) 0 2) from rfl)) $$ HT
  icases HX with ⟨X0, X1, X2⟩
  icases HT with ⟨T0, T1, T2⟩
  simp only [WP_bind]
  iapply (signal_wp m N c (dv c 0) 0 (dv_eq c 0) _) $$ [X0 T0 HO]
  · isplitr; · iexact HC
    isplitl [X0]; · iexact X0
    isplitl [T0] <;> iassumption
  iintro HO
  iapply (signal_wp m N c (dv c 1) 1 (dv_eq c 1) _) $$ [X1 T1 HO]
  · isplitr; · iexact HC
    isplitl [X1]; · iexact X1
    isplitl [T1] <;> iassumption
  iintro HO
  iapply (signal_wp m N c (dv c 2) 2 (dv_eq c 2) _) $$ [X2 T2 HO]
  · isplitr; · iexact HC
    isplitl [X2]; · iexact X2
    isplitl [T2] <;> iassumption
  iintro HO
  iapply (barWait_wp m N c hl _) $$ [Hcr Hat HO]
  · isplitr; · iexact HC
    isplitl [Hcr]; · iexact Hcr
    isplitl [Hat] <;> iassumption
  iintro ⟨HO, Hat, HX⟩
  iapply Hk
  isplitl [HO]; · iexact HO
  isplitl [Hat]; · iexact Hat
  iapply (from_bar c); iexact HX

theorem putX_wp (c : Dev nD) (Q : PUnit → sProp 𝕄) :
    iprop(xst c (xV m c) ∗ (∃ f, xfp c c fullShare f)) ⊢ iprop(((xst c (xV m c) ∗ xfp c c fullShare (actV m 0)) -∗ Q ⟨⟩) -∗ WP c (putX c) Q) := by
  unfold putX xst
  iintro ⟨Hx, Hf⟩ Hk
  simp only [WP_bind, Prog.lift]
  iapply (wp_load 𝒱₀ (c : Thread nD τ) none Set.univ (m := xM) (r := (Rect.unit (s := S64x2048) ![0, 0] S64x2048.size inb_S64x2048_S64x2048_0_0).toLoadRect)
    (S := Finset.univ) (q := fullShare) (f := xV m c) (Finset.subset_univ _)) $$ Hx
  iintro Hx
  rw [wp_ret, show xM.view.readAt (Elt F) (Rect.unit (s := S64x2048) ![0, 0] S64x2048.size inb_S64x2048_S64x2048_0_0).toLoadRect (xV m c) = xV m c from
    Memref.readAt_unit_zero (Elt F) _ (show (![0, 0] : Fin 2 → ℕ) = fun _ => 0 by decide) _ _]; imodintro
  iapply (putOwn_wp c (actV m 0) (k0_pay2 (xV m c)) (blk_asm _ c) _) $$ Hf
  iintro Hf
  iapply Hk
  isplitl [Hx] <;> iassumption

theorem finish_wp (c : Dev nD) (Q : PUnit → sProp 𝕄) :
    iprop(xfw c (actV m 3) ∗ (∃ f, ost c f)) ⊢ iprop(((xfw c (actV m 3) ∗ ost c (outV m)) -∗ Q ⟨⟩) -∗ WP c finish Q) := by
  unfold finish ost outV
  iintro ⟨Hx, ⟨%f, Ho⟩⟩ Hk
  simp only [WP_bind]
  iapply (load_xf c (actV m 3) _) $$ Hx
  iintro Hx
  simp only [Prog.lift]
  iapply (wp_load 𝒱₀ (c : Thread nD τ) none Set.univ (m := oM) (r := allR.toLoadRect) (S := Finset.univ) (q := fullShare) (f := f) (Finset.subset_univ _)) $$ Ho
  iintro Ho
  rw [wp_ret]; imodintro
  iapply (wp_store 𝒱₀ (c : Thread nD τ) none Set.univ (m := oM) (r := allR) (w := k0_pay1 (actV m 3)) (Mk := Finset.univ) (f := f) (S := Finset.univ) (Finset.subset_univ _)) $$ Ho
  iintro Ho
  rw [wp_ret, show (oM.access allR).write (Elt F) f (k0_pay1 (actV m 3)) Finset.univ = k0_pay1 (actV m 3) from
    Memref.write_access_unit_zero_univ (Elt F) cc0_stg1_0 (show (![0, 0] : Fin 2 → ℕ) = fun _ => 0 by decide) _ f (k0_pay1 (actV m 3))]; imodintro
  iapply Hk
  isplitl [Hx] <;> iassumption

/-! ## The start and the end of the protocol -/

/-- A device's positions at the start. -/
def posn (c : Dev nD) : sProp 𝕄 := bigSep Finset.univ fun i : CI => atPos ER (cell c i) 0 ∅ 0
/-- What a device has towards itself: no transfers go there. -/
def selfS (c : Dev nD) : sProp 𝕄 := iprop(atPos ER (cell c (.agr c)) 0 ∅ 0 ∗ atPos ER (cell c (.rsr c)) 0 ∅ 0 ∗ ∃ f, rvp c c f)

theorem pos_open (c : Dev nD) :
    iprop(Ctx m N ∗ posn c) ⊢ iprop((atPos ER (cell c .bar) 0 ∅ 0 ∗ atPos ER (cell c (.agr c)) 0 ∅ 0 ∗ atPos ER (cell c (.rsr c)) 0 ∅ 0)
      ∗ three (agPos (F := F) c 0) ∗ three (rsPos (F := F) c 0)) := by
  unfold posn
  rw [cells_eq]
  iintro ⟨#HC, Hb, Ha, Hr, Hs, Ht⟩
  isplitl [Hb]; · iexact Hb
  isplitl [Ha Hr]
  · iapply (three_with (R := Ctx m N) (P := fun r => iprop(atPos ER (cell c (.ags r)) 0 ∅ 0 ∗ atPos ER (cell c (.agr (pr r c))) 0 ∅ 0)) fun r => by
      unfold agPos
      iintro ⟨#HC, Ha, Hb⟩
      ihave #H1 := (Ctx.reach m N c (.ags r)) $$ HC
      ihave #H2 := (Ctx.reach m N c (.agr (pr r c))) $$ HC
      isplitl [Ha]; · iexact Ha
      isplitr; · iexact H1
      isplitl [Hb]; · iexact Hb
      iexact H2)
    isplitr; · iexact HC
    rw [three_sep]
    isplitl [Ha] <;> iassumption
  · iapply (three_with (R := Ctx m N) (P := fun r => iprop(atPos ER (cell c (.rss r)) 0 ∅ 0 ∗ atPos ER (cell c (.rsr (pr r c))) 0 ∅ 0)) fun r => by
      unfold rsPos
      iintro ⟨#HC, Ha, Hb⟩
      ihave #H1 := (Ctx.reach m N c (.rss r)) $$ HC
      ihave #H2 := (Ctx.reach m N c (.rsr (pr r c))) $$ HC
      isplitl [Ha]; · iexact Ha
      isplitr; · iexact H1
      isplitl [Hb]; · iexact Hb
      iexact H2)
    isplitr; · iexact HC
    rw [three_sep]
    isplitl [Hs] <;> iassumption

/-- Before the first gathering. -/
theorem gather_open (c : Dev nD) :
    iprop(Ctx m N ∗ three (agTok c 0) ∗ three (agPos c 0) ∗ (three fun r => iprop(∃ f, xfp (pr r c) c fullShare f)) ∗ three fun r => iprop(∃ f, rvp c (pr r c) f))
      ⊢ three (agPre (F := F) c 0) := by
  rw [← three_sep, ← three_sep, ← three_sep]
  refine three_with fun r => ?_
  unfold agPre
  rw [show agRight (F := F) c (pr r c) 0 = iprop((∃ f, xfp (pr r c) c fullShare f) ∗ reached ER (cell (pr r c) (.agr c)) 0) from rfl,
    show (giveRV c (pr r c) 0 : sProp 𝕄) = iprop((∃ f, rvp c (pr r c) f) ∗ reached ER (cell c (.rsr (pr r c))) 0) from rfl]
  iintro ⟨#HC, Ht, Hp, Hx, Hv⟩
  ihave #H1 := (Ctx.reach m N (pr r c) (.agr c)) $$ HC
  ihave #H2 := (Ctx.reach m N c (.rsr (pr r c))) $$ HC
  isplitl [Ht]; · iexact Ht
  isplitl [Hp]; · iexact Hp
  isplitl [Hx]
  · isplitl [Hx]; · iexact Hx
    iexact H1
  isplitl [Hv]; · iexact Hv
  iexact H2

/-- After the last layer, what a device has of its dealings with the three others. -/
theorem lay_end (c : Dev nD) : three (layIn m c 3)
    ⊢ iprop((three fun r => xfp c (pr r c) fullShare (actV m 3)) ∗ (three fun r => iprop(∃ f, sbp c r f)) ∗ (three fun r => iprop(∃ f, rvp c (pr r c) f))
      ∗ (three fun r => atPos ER (cell c (.ags r)) 4 ∅ 0) ∗ (three fun r => atPos ER (cell c (.agr (pr r c))) 4 ∅ 0)
      ∗ (three fun r => atPos ER (cell c (.rss r)) 3 ∅ 0) ∗ three fun r => atPos ER (cell c (.rsr (pr r c))) 3 ∅ 0) := by
  rw [← three_sep, ← three_sep, ← three_sep, ← three_sep, ← three_sep, ← three_sep]
  refine three_mono fun r => ?_
  unfold layIn agPost
  rw [show agPos (F := F) c (3 + 1) r = iprop(atPos ER (cell c (.ags r)) 4 ∅ 0 ∗ reached ER (cell c (.ags r)) 4 ∗ atPos ER (cell c (.agr (pr r c))) 4 ∅ 0
      ∗ reached ER (cell c (.agr (pr r c))) 4) from rfl,
    show rsPos (F := F) c 3 r = iprop(atPos ER (cell c (.rss r)) 3 ∅ 0 ∗ reached ER (cell c (.rss r)) 3 ∗ atPos ER (cell c (.rsr (pr r c))) 3 ∅ 0
      ∗ reached ER (cell c (.rsr (pr r c))) 3) from rfl,
    show retRV (F := F) c 3 r = iprop(∃ f, rvp c (pr r c) f) from rfl]
  iintro ⟨⟨⟨Ha, -, Hb, -⟩, Hx, -⟩, ⟨Hd, -, He, -⟩, Hs, Hv⟩
  isplitl [Hx]; · iexact Hx
  isplitl [Hs]; · iexact Hs
  isplitl [Hv]; · iexact Hv
  isplitl [Ha]; · iexact Ha
  isplitl [Hb]; · iexact Hb
  isplitl [Hd] <;> iassumption

/-- All rounds done, the semaphores are at zero. -/
theorem close_all (c : Dev nD) :
    iprop(Ctx m N ∗ bigSep Finset.univ fun i : CI => atPos ER (cell c i) (lastOf c i) ∅ 0) ⊢ |={Set.univ}=> bigSep Finset.univ fun i : CI => (semVal (cell c i) 0 : sProp 𝕄) := by
  have h : iprop(Ctx m N ∗ bigSep Finset.univ fun i : CI => atPos ER (cell c i) (lastOf c i) ∅ 0)
      ⊢ bigSep Finset.univ fun i : CI => iprop(Ctx m N ∗ atPos ER (cell c i) (lastOf c i) ∅ 0) := by
    iintro ⟨#HC, H⟩
    rw [BI.bigSep_sep']
    isplitr [H]
    · iapply (BI.bigSep_of_persistent Finset.univ (Ctx m N)); iexact HC
    · iexact H
  refine h.trans ((bigSep_mono fun i _ => ?_).trans (bigSep_fupd _ _))
  exact (BI.sep_mono (Ctx.inv m N c i) (BI.Entails.refl _)).trans (Rounds.cell_close ER (sched m) (Set.mem_univ _) (fun h => h) (R := lastOf c i) (duties_end m c i))

/-! ## The body -/

/-- What a device starts with; what it ends with. -/
def bodyStart (c : Dev nD) : sProp 𝕄 := iprop(Ctx m N ∗ posn c ∗ toks c ∗ bufs c ∗ wsems c ∗ weights m c)
@[inherit_doc bodyStart] def bodyEnd (c : Dev nD) : sProp 𝕄 :=
  iprop((bigSep Finset.univ fun i : CI => (semVal (cell c i) 0 : sProp 𝕄)) ∗ bufs c ∗ wsems c ∗ weights m c)

/-- What a device does not touch in its layers. -/
def aside (c : Dev nD) : sProp 𝕄 := iprop(atPos ER (cell c .bar) 1 ∅ 0 ∗ selfS c)

theorem above_start (c : Dev nD) : Above 1 (payAG c 0 ++ due c 3) := (above_AG c (by omega) (by omega)).app ((above_due c 3 (by omega)).mono (by omega))

/-- The tokens of the layers. -/
def layToks (c : Dev nD) : sProp 𝕄 := iprop((three (agTok c 1) ∗ three (agTok c 2) ∗ three (agTok c 3)) ∗ (three (rsTok c 0) ∗ three (rsTok c 1) ∗ three (rsTok c 2)))

/-- Up to the first layer. -/
theorem first_wp (c : Dev nD) (Q : PUnit → sProp 𝕄) :
    iprop(bodyStart m N c ∗ xst c (xV m c) ∗ owe c (dueAll c))
      ⊢ iprop(((LSt m c 0 ∗ aside c ∗ layToks c ∗ xst c (xV m c)) -∗ Q ⟨⟩) -∗ WP c startW fun _ => WP c (meet c) fun _ => WP c (putX c) fun _ => WP c (gather c) Q) := by
  unfold bodyStart toks bufs dueAll aside selfS layToks
  iintro ⟨⟨#HC, Hpos, ⟨Hbt, Hbc, ⟨A0, A1, A2, A3⟩, HR⟩, ⟨Hxf, Hpt, Hsb, Hrv, Hwi, Hwo⟩, Hsm, Hwt⟩, Hx, HO⟩ Hk
  ihave Hpos := (pos_open m N c) $$ [Hpos]
  · isplitr; · iexact HC
    iexact Hpos
  icases Hpos with ⟨⟨Hb, Hga, Hgr⟩, Hap, Hrp⟩
  ihave Hxf := (xf_any c) $$ Hxf
  icases Hxf with ⟨Hown, Hxs⟩
  ihave Hrv := (rv_any c) $$ Hrv
  icases Hrv with ⟨Hrc, Hrs⟩
  ihave Hsb := (sb_any c) $$ Hsb
  iapply (startW_wp m c _) $$ [Hwi Hwo Hsm Hwt]
  · isplitl [Hwi]; · iexact Hwi
    isplitl [Hwo]; · iexact Hwo
    isplitl [Hsm] <;> iassumption
  iintro ⟨Hin, Hout⟩
  iapply (meet_wp m N c (above_start c) _) $$ [Hxs Hbt Hbc Hb HO]
  · isplitr; · iexact HC
    isplitl [Hxs]; · iexact Hxs
    isplitl [Hbt]; · iexact Hbt
    isplitl [Hbc]; · iexact Hbc
    isplitl [Hb] <;> iassumption
  iintro ⟨HO, Hb, Hxs⟩
  iapply (putX_wp m c _) $$ [Hx Hown]
  · isplitl [Hx] <;> iassumption
  iintro ⟨Hx, Hown⟩
  ihave Hg := (gather_open m N c) $$ [A0 Hap Hxs Hrs]
  · isplitr; · iexact HC
    isplitl [A0]; · iexact A0
    isplitl [Hap]; · iexact Hap
    isplitl [Hxs] <;> iassumption
  iapply (gather_wp m N c 0 (by omega) ((above_due c 3 (by omega)).mono (by omega)) _) $$ [Hg Hown HO]
  · isplitr; · iexact HC
    isplitl [Hg]; · iexact Hg
    isplitl [Hown] <;> iassumption
  iintro ⟨Hg, Hown, HO⟩
  iapply Hk
  unfold LSt
  isplitl [Hg Hrp Hsb Hown Hpt Hin Hout HO]
  · isplitl [Hg Hrp Hsb]
    · iapply (lay_close m c 0)
      isplitl [Hg]; · iexact Hg
      iapply (Entails.of_eq (show iprop(three (rsPos c 0) ∗ three fun r => iprop(∃ f, sbp c r f)) = (three (layLate c 0) : sProp 𝕄) from by
        rw [← three_sep]; unfold layLate retRV; simp only [if_pos (show 0 < 3 by decide), sepEmp]))
      isplitl [Hrp] <;> iassumption
    isplitl [Hown]; · iexact Hown
    isplitl [Hpt]; · iexact Hpt
    isplitl [Hin]; · iexact Hin
    isplitl [Hout] <;> iassumption
  isplitl [Hb Hga Hgr Hrc]
  · isplitl [Hb]; · iexact Hb
    isplitl [Hga]; · iexact Hga
    isplitl [Hgr] <;> iassumption
  isplitr [Hx]
  · isplitl [A1 A2 A3]
    · isplitl [A1]; · iexact A1
      isplitl [A2] <;> iassumption
    iexact HR
  iexact Hx

/-- With all 24 tiles done, the weights and their buffers are free again. -/
theorem out_end (c : Dev nD) : outSt m c 24
    ⊢ iprop(wow c ∗ (semVal (woC c 0) 0 ∗ semVal (woC c 1) 0 ∗ semVal (woC c 2) 0 ∗ semVal (woC c 3) 0) ∗ three (woutp m c)) := by
  rw [show outSt m c 24 = iprop((((∃ f, slotp c 0 f) ∗ semVal (woC c 0) 0) ∗ ((∃ f, slotp c 1 f) ∗ semVal (woC c 1) 0)
      ∗ ((∃ f, slotp c 2 f) ∗ semVal (woC c 2) 0) ∗ ((∃ f, slotp c 3 f) ∗ semVal (woC c 3) 0))
      ∗ (bigSep (Finset.range 24) (tilAt m c)) ∗ (bigSep (Finset.Ico 28 28) (tilAt m c))) from rfl, ← til_done]
  iintro ⟨⟨⟨O0, H0⟩, ⟨O1, H1⟩, ⟨O2, H2⟩, ⟨O3, H3⟩⟩, HT, -⟩
  isplitl [O0 O1 O2 O3]
  · iapply (wo_join m c)
    isplitl [O0]; · iexact O0
    isplitl [O1]; · iexact O1
    isplitl [O2] <;> iassumption
  isplitr [HT]
  · isplitl [H0]; · iexact H0
    isplitl [H1]; · iexact H1
    isplitl [H2] <;> iassumption
  iexact HT

theorem last_open (c : Dev nD) : LSt m c 3
    ⊢ iprop(xfw c (actV m 3) ∗ sbw c ∗ (∃ f, ptp c f) ∗ (three fun r => iprop(∃ f, rvp c (pr r c) f)) ∗ (∃ f, wip c f) ∗ wow c ∗ wsems c ∗ weights m c
      ∗ owe c [] ∗ (three fun r => atPos ER (cell c (.ags r)) 4 ∅ 0) ∗ (three fun r => atPos ER (cell c (.agr (pr r c))) 4 ∅ 0)
      ∗ (three fun r => atPos ER (cell c (.rss r)) 3 ∅ 0) ∗ three fun r => atPos ER (cell c (.rsr (pr r c))) 3 ∅ 0) := by
  unfold wsems weights
  rw [show LSt m c 3 = iprop(three (layIn m c 3) ∗ xfp c c fullShare (actV m 3) ∗ (∃ f, ptp c f) ∗ ((∃ f, wip c f) ∗ semVal (wiC c) 0 ∗ three (winp m c)) ∗ outSt m c 24 ∗ owe c []) from rfl]
  iintro ⟨HL, Hx, Hp, ⟨Hi, Hv, Hw⟩, Ho, HO⟩
  ihave HL := (lay_end m c) $$ HL
  icases HL with ⟨Hxs, Hs, Hr, HA⟩
  ihave Ho := (out_end m c) $$ Ho
  icases Ho with ⟨Ho, Hvs, Ht⟩
  isplitl [Hx Hxs]
  · iapply (Entails.of_eq (xf_eq c (actV m 3)).symm)
    isplitl [Hx] <;> iassumption
  isplitl [Hs]
  · iapply (sb_join m c); iexact Hs
  isplitl [Hp]; · iexact Hp
  isplitl [Hr]; · iexact Hr
  isplitl [Hi]; · iexact Hi
  isplitl [Ho]; · iexact Ho
  isplitl [Hv Hvs]
  · isplitl [Hv] <;> iassumption
  isplitl [Hw Ht]
  · isplitl [Hw] <;> iassumption
  isplitl [HO] <;> iassumption

/-- The positions at the end. -/
theorem pos_close (c : Dev nD) :
    iprop((atPos ER (cell c .bar) 1 ∅ 0 ∗ atPos ER (cell c (.agr c)) 0 ∅ 0 ∗ atPos ER (cell c (.rsr c)) 0 ∅ 0)
      ∗ (three fun r => atPos ER (cell c (.ags r)) 4 ∅ 0) ∗ (three fun r => atPos ER (cell c (.agr (pr r c))) 4 ∅ 0)
      ∗ (three fun r => atPos ER (cell c (.rss r)) 3 ∅ 0) ∗ three fun r => atPos ER (cell c (.rsr (pr r c))) 3 ∅ 0)
    = (bigSep Finset.univ fun i : CI => atPos ER (cell c i) (lastOf c i) ∅ 0 : sProp 𝕄) := by
  rw [cells_eq c]
  have ha (r : Fin 3) : lastOf c (.agr (pr r c)) = 4 := if_neg (pr_ne r c)
  have hr (r : Fin 3) : lastOf c (.rsr (pr r c)) = 3 := if_neg (pr_ne r c)
  have ha' : lastOf c (.agr c) = 0 := if_pos rfl
  have hr' : lastOf c (.rsr c) = 0 := if_pos rfl
  simp only [ha, hr, ha', hr']
  rfl

theorem devId_wp (c : Dev nD) (Q : Dev nD → sProp 𝕄) : Q c ⊢ WP c (Prog.lift .deviceId) Q := by
  exact (fupd_intro (E := Set.univ)).trans (Entails.of_eq ((wp_deviceId 𝒱₀ (c : Thread nD τ) none Set.univ).trans (wp_ret ..)).symm)

theorem layer_at (c : Dev nD) (l : Fin 3) (k k' : ℕ) (h : l.val = k) (h' : l.val + 1 = k') (Q : PUnit → sProp 𝕄) :
    iprop(Ctx m N ∗ LSt m c k ∗ three (rsTok c k) ∗ three (agTok c k')) ⊢ iprop((LSt m c k' -∗ Q ⟨⟩) -∗ WP c (layer c l) Q) := by
  subst h; subst h'
  exact layer_wp m N c l Q

theorem prog_wp (c : Dev nD) (Q : PUnit → sProp 𝕄) :
    iprop(bodyStart m N c ∗ xst c (xV m c) ∗ (∃ f, ost c f) ∗ owe c (dueAll c))
      ⊢ iprop(((bodyEnd m c ∗ xst c (xV m c) ∗ ost c (outV m) ∗ owe c []) -∗ Q ⟨⟩) -∗ WP c prog Q) := by
  rw [show bodyStart m N c = iprop(Ctx m N ∗ posn c ∗ toks c ∗ bufs c ∗ wsems c ∗ weights m c) from rfl]
  unfold prog
  iintro ⟨⟨#HC, HS⟩, Hx, Ho, HO⟩ Hk
  simp only [WP_bind]
  iapply (devId_wp c _)
  iapply (first_wp m N c _) $$ [HS Hx HO]
  · unfold bodyStart
    isplitl [HS]
    · isplitr; · iexact HC
      iexact HS
    isplitl [Hx] <;> iassumption
  iintro ⟨HL, Has, HT, Hx⟩
  unfold layToks
  icases HT with ⟨⟨A1, A2, A3⟩, R0, R1, R2⟩
  iapply (layer_at m N c 0 0 1 rfl rfl _) $$ [HL R0 A1]
  · isplitr; · iexact HC
    isplitl [HL]; · iexact HL
    isplitl [R0] <;> iassumption
  iintro HL
  iapply (layer_at m N c 1 1 2 rfl rfl _) $$ [HL R1 A2]
  · isplitr; · iexact HC
    isplitl [HL]; · iexact HL
    isplitl [R1] <;> iassumption
  iintro HL
  iapply (layer_at m N c 2 2 3 rfl rfl _) $$ [HL R2 A3]
  · isplitr; · iexact HC
    isplitl [HL]; · iexact HL
    isplitl [R2] <;> iassumption
  iintro HL
  ihave HL := (last_open m c) $$ HL
  icases HL with ⟨Hxf, Hsb, Hpt, Hrv, Hwi, Hwo, Hsm, Hwt, HO, HA⟩
  unfold aside selfS
  icases Has with ⟨Hb, Hga, Hgr, Hrc⟩
  ihave HA := (Entails.of_eq (pos_close c)) $$ [HA Hb Hga Hgr]
  · isplitl [Hb Hga Hgr]
    · isplitl [Hb]; · iexact Hb
      isplitl [Hga] <;> iassumption
    iexact HA
  imod (close_all m N c) $$ [HA] with HZ
  · isplitr; · iexact HC
    iexact HA
  iapply (finish_wp m c _) $$ [Hxf Ho]
  · isplitl [Hxf] <;> iassumption
  iintro ⟨Hxf, Ho⟩
  iapply Hk
  unfold bodyEnd bufs
  isplitr [Hx Ho HO]
  · isplitl [HZ]; · iexact HZ
    isplitl [Hxf Hpt Hsb Hrc Hrv Hwi Hwo]
    · isplitl [Hxf]
      · iexists (actV m 3); iexact Hxf
      isplitl [Hpt]; · iexact Hpt
      isplitl [Hsb]; · iexact Hsb
      isplitl [Hrc Hrv]
      · iapply (rv_join m c)
        isplitl [Hrc] <;> iassumption
      isplitl [Hwi] <;> iassumption
    isplitl [Hsm] <;> iassumption
  isplitl [Hx]; · iexact Hx
  isplitl [Ho] <;> iassumption

end Cert.Mlp

end
-- ==== Proof.Region.lean ====
/- The kernel as the pipeline's one point: its windows, what it holds before and after. -/
module

public import proofs.«01_k».proof.Proof.Whole

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (ρ : Dev nD → PrngReg)

/-- What a device holds before the point but for its buffers; with them; after the point. -/
def startOf (c : Dev nD) : sProp 𝕄 := iprop(∃ N, Ctx m N ∗ posn c ∗ toks c ∗ wsems c ∗ weights m c)
@[inherit_doc startOf] def Φ₀ (c : Dev nD) : sProp 𝕄 := iprop(startOf m c ∗ bufs c)
@[inherit_doc startOf] def Φ₁ (c : Dev nD) : sProp 𝕄 := bodyEnd m c

/-- What a device owes before the point. -/
def O₀ (c : Dev nD) : CellTallies nD τ sig ℕ := tallyL (dueAll c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xV m c
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem two_windows (Φ : Fin cfg0.W → sProp 𝕄) : bigSep Finset.univ Φ = iprop(Φ (0 : Fin 2) ∗ Φ (1 : Fin 2)) := bigSep_W0 Φ

theorem whole_owned (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding X. -/
def held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (c : Dev nD) : sProp 𝕄 :=
  iprop(Φ₀ m c ∗ (dats m ρ 0 c).owesAt (0 : ℕ) (Fin.castSucc (t0_0 : Fin cfg0.N))
    ∗ (∃ d, held c cc0_stg0_0 ((dats m ρ 0 c).before (0 : Fin 2) t0_0 d)) ∗ (∃ d, held c cc0_stg1_0 ((dats m ρ 0 c).before (1 : Fin 2) t0_0 d)))
def pointPost (c : Dev nD) : sProp 𝕄 :=
  iprop(Φ₁ m c ∗ (dats m ρ 0 c).owesAt (0 : ℕ) (Fin.succ (t0_0 : Fin cfg0.N)) ∗ held c cc0_stg0_0 (xV m c) ∗ held c cc0_stg1_0 (outV m))

theorem before_x (c : Dev nD) (d) : (dats m ρ 0 c).before (0 : Fin 2) t0_0 d = xV m c := by
  unfold Pipeline.Dat.before
  rw [if_pos (fetch0_0 t0_0)]
  rfl

theorem point_wp (c : Dev nD) : pointPre m ρ c ⊢ WP c prog fun _ => pointPost m ρ c := by
  unfold pointPre Φ₀ startOf held
  iintro ⟨⟨⟨%N, #HC, Hp, Ht, Hs, Hw⟩, Hb⟩, Ho, ⟨%d0, %g0, %hg0, Hx⟩, ⟨%d1, %g1, %hg1, Hout⟩⟩
  have hx : g0 = xV m c := hg0.trans (before_x m ρ c d0)
  unfold Pipeline.Dat.owesAt Pipeline.owesWithin
  icases Ho with ⟨%W, %hW, HO⟩
  rw [show (dats m ρ 0 c).owed (Fin.castSucc (t0_0 : Fin cfg0.N)) = tallyL (dueAll c) from rfl]
  iapply (prog_wp m N c fun _ => pointPost m ρ c) $$ [Hp Ht Hs Hw Hb Hx Hout HO]
  · unfold bodyStart
    isplitl [Hp Ht Hs Hw Hb]
    · isplitr; · iexact HC
      isplitl [Hp]; · iexact Hp
      isplitl [Ht]; · iexact Ht
      isplitl [Hb]; · iexact Hb
      isplitl [Hs] <;> iassumption
    isplitl [Hx]
    · rw [← hx]; unfold xst; iexact Hx
    isplitl [Hout]
    · iexists g1; unfold ost; iexact Hout
    unfold owe; iexists W; iexact HO
  iintro ⟨He, Hx, Hout, HO⟩
  unfold pointPost Φ₁ held owe Pipeline.Dat.owesAt Pipeline.owesWithin xst ost
  icases HO with ⟨%W', HO⟩
  isplitl [He]; · iexact He
  isplitl [HO]
  · rw [show (dats m ρ 0 c).owed (Fin.succ (t0_0 : Fin cfg0.N)) = tallyL [] from rfl]
    iexists W'
    isplitr; · ipureintro; exact fun _ _ => Or.inl trivial
    iexact HO
  isplitl [Hx]
  · iexists _
    isplitr; · (ipureintro; rfl)
    iexact Hx
  iexists _
  isplitr; · (ipureintro; rfl)
  iexact Hout

set_option maxRecDepth 100000 in
theorem body_obligation (c : Dev nD) : Pipeline.BodyObligation (dats m ρ 0 c) (defs₀ (F := F)) 𝒱₀ (0 : ℕ) Set.univ := fun t => by
  rw [fin_N0 t]
  rw [two_windows, two_windows]
  simp only [whole_owned]
  show pointPre m ρ c ⊢ wp frame (wpE (defs₀ (F := F)) 𝒱₀ c none) Set.univ (bodyAt0 t0_0) (fun _ => pointPost m ρ c)
  refine (point_wp m ρ c).trans (Entails.of_eq ?_)
  exact congrArg (fun p => wp frame (wpE (defs₀ (F := F)) 𝒱₀ (c : Thread nD τ) none) Set.univ p (fun _ => pointPost m ρ c)) body_eq.symm

end Cert.Mlp

end
-- ==== Proof.Tokens.lean ====
/- What each device is given at launch: the tokens of the duties it pays, the credits of what it waits for. -/
module

public import proofs.«01_k».proof.Proof.Region

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## Tokens -/

/-- The duties a device pays with one other device: the barrier's; gathering k's, its own semaphore's and the other's; reducing
    k's, likewise. -/
inductive Duty
  | bar | agOwn (k : Fin 4) | agPeer (k : Fin 4) | rsOwn (k : Fin 3) | rsPeer (k : Fin 3)
  deriving DecidableEq

def Duty.all : List Duty :=
  [.bar, .agOwn 0, .agPeer 0, .agOwn 1, .agPeer 1, .agOwn 2, .agPeer 2, .agOwn 3, .agPeer 3, .rsOwn 0, .rsPeer 0, .rsOwn 1, .rsPeer 1,
    .rsOwn 2, .rsPeer 2]

theorem Duty.mem_all (i : Duty) : i ∈ Duty.all := by
  cases i with
  | bar => decide
  | agOwn k => revert k; decide
  | agPeer k => revert k; decide
  | rsOwn k => revert k; decide
  | rsPeer k => revert k; decide

instance : Fintype Duty := ⟨Duty.all.toFinset, fun i => List.mem_toFinset.mpr i.mem_all⟩

def dutyAt (c : Dev nD) (r : Fin 3) : Duty → (Dev nD × CI) × ℕ × Fin 3
  | .bar => ((pr r c, .bar), 0, r)
  | .agOwn k => ((c, .ags r), k, 0)
  | .agPeer k => ((pr r c, .agr c), k, 0)
  | .rsOwn k => ((c, .rss r), k, 0)
  | .rsPeer k => ((pr r c, .rsr c), k, 0)

theorem pr_cancel : ∀ (r : Fin 3) (c d : Dev nD), pr r c = pr r d → c = d := by decide
theorem pr_which : ∀ (r s : Fin 3) (c : Dev nD), pr r c = pr s c → r = s := by decide

theorem dutyAt_inj : Function.Injective fun x : Dev nD × Fin 3 × Duty => dutyAt x.1 x.2.1 x.2.2 := by
  rintro ⟨c, r, i⟩ ⟨d, s, j⟩ h
  cases i <;> cases j <;> simp only [dutyAt, Prod.mk.injEq, CI.ags.injEq, CI.agr.injEq, CI.rss.injEq, CI.rsr.injEq, reduceCtorEq, and_false,
    false_and, and_true, true_and] at h
  · obtain ⟨h, rfl⟩ := h; rw [pr_cancel _ _ _ h]
  · obtain ⟨⟨rfl, rfl⟩, h⟩ := h; rw [Fin.ext h]
  · obtain ⟨⟨h', rfl⟩, h⟩ := h; rw [Fin.ext h, pr_which _ _ _ h']
  · obtain ⟨⟨rfl, rfl⟩, h⟩ := h; rw [Fin.ext h]
  · obtain ⟨⟨h', rfl⟩, h⟩ := h; rw [Fin.ext h, pr_which _ _ _ h']

def tokOf (x : Dev nD × Fin 3 × Duty) : GSem nD τ sig × ℕ × Fin 3 :=
  (cell (dutyAt x.1 x.2.1 x.2.2).1.1 (dutyAt x.1 x.2.1 x.2.2).1.2, (dutyAt x.1 x.2.1 x.2.2).2)
theorem tokOf_inj : Function.Injective tokOf := fun x y h =>
  dutyAt_inj (Prod.ext (cell_inj (Prod.ext_iff.mp h).1) (Prod.ext_iff.mp h).2)

/-- The semaphores with rounds; the tokens. -/
def cells : Finset (GSem nD τ sig) := Finset.univ.map ⟨fun x : Dev nD × CI => cell x.1 x.2, cell_inj⟩
@[inherit_doc cells] def minted : Finset (GSem nD τ sig × ℕ × Fin 3) := Finset.univ.map ⟨tokOf, tokOf_inj⟩

/-- The tokens of gathering k's transfer to one device; of reducing k's; all of a device's. -/
def agPay (c : Dev nD) (k : ℕ) (r : Fin 3) : sProp 𝕄 := iprop(dutyTok ER (cell c (.ags r)) k 0 ∗ dutyTok ER (cell (pr r c) (.agr c)) k 0)
@[inherit_doc agPay] def rsPay (c : Dev nD) (k : ℕ) (r : Fin 3) : sProp 𝕄 := iprop(dutyTok ER (cell c (.rss r)) k 0 ∗ dutyTok ER (cell (pr r c) (.rsr c)) k 0)
@[inherit_doc agPay] def pays (c : Dev nD) : sProp 𝕄 :=
  iprop((three fun r => dutyTok ER (cell (pr r c) .bar) 0 r)
    ∗ (three (agPay c 0) ∗ three (agPay c 1) ∗ three (agPay c 2) ∗ three (agPay c 3)) ∗ (three (rsPay c 0) ∗ three (rsPay c 1) ∗ three (rsPay c 2)))

/-- The credits likewise. -/
def agCr (c : Dev nD) (k : ℕ) (r : Fin 3) : sProp 𝕄 := cred (tallyAt (cell c (.agr (pr r c))) (2 + 2 * k) NA)
@[inherit_doc agCr] def rsCr (c : Dev nD) (k : ℕ) (r : Fin 3) : sProp 𝕄 := cred (tallyAt (cell c (.rsr (pr r c))) (3 + 2 * k) NR)
@[inherit_doc agCr] def creds (c : Dev nD) : sProp 𝕄 :=
  iprop(cred (tallyAt (cell c .bar) 1 3) ∗ (three (agCr c 0) ∗ three (agCr c 1) ∗ three (agCr c 2) ∗ three (agCr c 3))
    ∗ (three (rsCr c 0) ∗ three (rsCr c 1) ∗ three (rsCr c 2)))

theorem sep_assoc_eq (P Q R : sProp 𝕄) : iprop((P ∗ Q) ∗ R) = iprop(P ∗ Q ∗ R) := BI.equiv_iff.mp ⟨BI.sep_assoc, BI.sep_assoc'⟩

theorem minted_one (c : Dev nD) (r : Fin 3) :
    (bigSep Finset.univ fun i : Duty => (dutyTok ER (tokOf (c, r, i)).1 (tokOf (c, r, i)).2.1 (tokOf (c, r, i)).2.2 : sProp 𝕄))
      = iprop(dutyTok ER (cell (pr r c) .bar) 0 r ∗ (agPay c 0 r ∗ agPay c 1 r ∗ agPay c 2 r ∗ agPay c 3 r) ∗ rsPay c 0 r ∗ rsPay c 1 r ∗ rsPay c 2 r) := by
  rw [bigSep_univ_eq_bigSepL [.bar, .agOwn 0, .agPeer 0, .agOwn 1, .agPeer 1, .agOwn 2, .agPeer 2, .agOwn 3, .agPeer 3, .rsOwn 0, .rsPeer 0, .rsOwn 1,
    .rsPeer 1, .rsOwn 2, .rsPeer 2] (by decide) (by decide)]
  simp only [bigSepL_cons_cons, bigSepL_singleton]
  unfold agPay rsPay
  simp only [sep_assoc_eq]
  rfl

theorem minted_eq (c : Dev nD) :
    (bigSep Finset.univ fun x : Fin 3 × Duty => (dutyTok ER (tokOf (c, x)).1 (tokOf (c, x)).2.1 (tokOf (c, x)).2.2 : sProp 𝕄)) = pays c := by
  rw [bigSep_univ_prod fun x : Fin 3 × Duty => (dutyTok ER (tokOf (c, x)).1 (tokOf (c, x)).2.1 (tokOf (c, x)).2.2 : sProp 𝕄),
    bigSep_congr (s := Finset.univ) fun r _ => minted_one c r, three_eq]
  unfold pays
  rw [three_sep, three_sep, three_sep, three_sep, three_sep, three_sep, three_sep]

theorem toks_eq (c : Dev nD) : (toks c : sProp 𝕄) = iprop(pays c ∗ creds c) := by
  have ha : ∀ k, (three (agTok c k) : sProp 𝕄) = iprop(three (agPay c k) ∗ three (agCr c k)) := fun k => by
    rw [← three_sep]; unfold agTok agPay agCr; simp only [sep_assoc_eq]
  have hr : ∀ k, (three (rsTok c k) : sProp 𝕄) = iprop(three (rsPay c k) ∗ three (rsCr c k)) := fun k => by
    rw [← three_sep]; unfold rsTok rsPay rsCr; simp only [sep_assoc_eq]
  unfold toks pays creds
  rw [ha, ha, ha, ha, hr, hr, hr]
  generalize (three fun r => (dutyTok ER (cell (pr r c) .bar) 0 r : sProp 𝕄)) = B
  generalize (cred (tallyAt (cell c .bar) 1 3) : sProp 𝕄) = C
  ac_rfl

end Cert.Mlp

end
-- ==== Proof.Fund.lean ====
/- The launch's credits dealt out, the rounds begun, the semaphores' invariants made. -/
module

public import proofs.«01_k».proof.Proof.Tokens

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-! ## Credits -/

/-- What the others owe device c: at its barrier; in gathering k; in reducing k. -/
def gotAG (c : Dev nD) (k : ℕ) : List (Pay nD τ sig) :=
  [(cell c (.agr (pr 0 c)), 2 + 2 * k, NA), (cell c (.agr (pr 1 c)), 2 + 2 * k, NA), (cell c (.agr (pr 2 c)), 2 + 2 * k, NA)]
@[inherit_doc gotAG] def gotRS (c : Dev nD) (k : ℕ) : List (Pay nD τ sig) :=
  [(cell c (.rsr (pr 0 c)), 3 + 2 * k, NR), (cell c (.rsr (pr 1 c)), 3 + 2 * k, NR), (cell c (.rsr (pr 2 c)), 3 + 2 * k, NR)]
@[inherit_doc gotAG] def got (c : Dev nD) : List (Pay nD τ sig) :=
  (cell c .bar, 1, 3) :: (gotAG c 0 ++ (gotAG c 1 ++ (gotAG c 2 ++ (gotAG c 3 ++ (gotRS c 0 ++ (gotRS c 1 ++ gotRS c 2))))))

/-- Over all pairs of devices, by giver or by taker. -/
theorem sum_pairs {A : Type} [AddCommMonoid A] (f : Dev nD → Dev nD → A) :
    (∑ d : Dev nD, (f (pr 0 d) d + (f (pr 1 d) d + (f (pr 2 d) d + 0)))) = ∑ c : Dev nD, (f c (pr 0 c) + (f c (pr 1 c) + (f c (pr 2 c) + 0))) := by
  show (∑ d : Fin 4, (f (pr 0 d) d + (f (pr 1 d) d + (f (pr 2 d) d + 0)))) = ∑ c : Fin 4, (f c (pr 0 c) + (f c (pr 1 c) + (f c (pr 2 c) + 0)))
  rw [Fin.sum_univ_four, Fin.sum_univ_four]
  simp only [show pr 0 (0 : Fin 4) = (1 : Fin 4) from rfl, show pr 1 (0 : Fin 4) = (2 : Fin 4) from rfl, show pr 2 (0 : Fin 4) = (3 : Fin 4) from rfl,
    show pr 0 (1 : Fin 4) = (2 : Fin 4) from rfl, show pr 1 (1 : Fin 4) = (3 : Fin 4) from rfl, show pr 2 (1 : Fin 4) = (0 : Fin 4) from rfl,
    show pr 0 (2 : Fin 4) = (3 : Fin 4) from rfl, show pr 1 (2 : Fin 4) = (0 : Fin 4) from rfl, show pr 2 (2 : Fin 4) = (1 : Fin 4) from rfl,
    show pr 0 (3 : Fin 4) = (0 : Fin 4) from rfl, show pr 1 (3 : Fin 4) = (1 : Fin 4) from rfl, show pr 2 (3 : Fin 4) = (2 : Fin 4) from rfl, add_zero]
  ac_rfl

theorem sum_bar : (∑ d : Dev nD, tallyL (payBar d)) = ∑ c : Dev nD, (tallyAt (cell c .bar) 1 3 : CellTallies nD τ sig ℕ) :=
  (sum_pairs fun a _ => (tallyAt (cell a .bar) 1 1 : CellTallies nD τ sig ℕ)).trans
    (Finset.sum_congr rfl fun c _ => by rw [add_zero, tallyAt_add, tallyAt_add])
theorem sum_AG (k : ℕ) : (∑ d : Dev nD, tallyL (payAG d k)) = ∑ c : Dev nD, tallyL (gotAG c k) :=
  sum_pairs fun a b => (tallyAt (cell a (.agr b)) (2 + 2 * k) NA : CellTallies nD τ sig ℕ)
theorem sum_RS (k : ℕ) : (∑ d : Dev nD, tallyL (payRS d k)) = ∑ c : Dev nD, tallyL (gotRS c k) :=
  sum_pairs fun a b => (tallyAt (cell a (.rsr b)) (3 + 2 * k) NR : CellTallies nD τ sig ℕ)

theorem dueAll_eq (d : Dev nD) : dueAll d
    = payBar d ++ (payAG d 0 ++ (payRS d 0 ++ (payAG d 1 ++ (payRS d 1 ++ (payAG d 2 ++ (payRS d 2 ++ (payAG d 3 ++ []))))))) := rfl

theorem sum_dues : (∑ d : Dev nD, O₀ d) = ∑ c : Dev nD, tallyL (got c) := by
  unfold O₀
  rw [Finset.sum_congr rfl fun d _ => congrArg tallyL (dueAll_eq d)]
  unfold got
  simp only [TalkSites.tallyL_append, Finset.sum_add_distrib, sum_bar, sum_AG, sum_RS]
  rw [show (fun c : Dev nD => tallyL ((cell c .bar, 1, 3) :: (gotAG c 0 ++ (gotAG c 1 ++ (gotAG c 2 ++ (gotAG c 3 ++ (gotRS c 0 ++ (gotRS c 1 ++ gotRS c 2))))))))
    = fun c => tallyAt (cell c .bar) 1 3 + tallyL (gotAG c 0 ++ (gotAG c 1 ++ (gotAG c 2 ++ (gotAG c 3 ++ (gotRS c 0 ++ (gotRS c 1 ++ gotRS c 2)))))) from rfl]
  simp only [TalkSites.tallyL_append, Finset.sum_add_distrib]
  rw [show (∑ d : Dev nD, tallyL ([] : List (Pay nD τ sig))) = 0 from Finset.sum_const_zero, add_zero]
  ac_rfl

theorem got_own (c : Dev nD) (g : GSem nD τ sig) (h : tallyL (got c) g ≠ 0) : g.1 = (c.tc : Thread nD τ) := by
  obtain ⟨i, hi⟩ := Finsupp.ne_iff.mp h
  obtain ⟨x, hx, rfl, _⟩ := TalkSites.tallyL_pos (Nat.pos_of_ne_zero hi)
  simp only [got, gotAG, gotRS, List.cons_append, List.nil_append, List.mem_cons, List.not_mem_nil, or_false] at hx
  rcases hx with rfl | rfl | rfl | rfl | rfl | rfl | rfl | rfl | rfl | rfl | rfl | rfl | rfl | rfl | rfl | rfl | rfl | rfl | rfl | rfl | rfl | rfl <;> rfl

theorem creds_eq (c : Dev nD) : (Pipeline.launchCred O₀ c : sProp 𝕄) = creds c := by
  rw [Pipeline.launchCred_of_sum O₀ (fun c => tallyL (got c)) sum_dues got_own, TalkSites.cred_tallyL (got c)]
  unfold creds three agCr rsCr
  simp only [sep_assoc_eq]
  simp only [got, gotAG, gotRS, List.cons_append, List.nil_append, bigSepL_cons_cons, bigSepL_singleton]
  rfl

/-! ## The rounds -/

variable (m : (ℓ : Loc nD τ sig) → Buf (Elt F) ℓ) (ρ : Dev nD → PrngReg)

/-- What a device gets of the rounds: its semaphores' states, its positions, that round 0 is reached, its tokens. -/
def share (c : Dev nD) : sProp 𝕄 :=
  iprop((bigSep Finset.univ fun i : CI => roundState ER (sched m) (cell c i) 0) ∗ posn c
    ∗ (bigSep Finset.univ fun i : CI => reached ER (cell c i) 0) ∗ pays c)

theorem fund_rounds : BI.own (ER (initOf cells minted)) ⊢ (|==> bigSep Finset.univ (share m) : sProp 𝕄) := by
  have hX (Φ : GSem nD τ sig → sProp 𝕄) : bigSep cells Φ = bigSep Finset.univ fun c : Dev nD => bigSep Finset.univ fun i : CI => Φ (cell c i) := by
    unfold cells; rw [bigSep_map, bigSep_univ_prod]; rfl
  have hT : bigSep minted (fun x => (dutyTok ER x.1 x.2.1 x.2.2 : sProp 𝕄)) = bigSep Finset.univ fun c : Dev nD => pays c := by
    unfold minted; rw [bigSep_map, bigSep_univ_prod]
    exact bigSep_congr fun c _ => minted_eq c
  iintro HX
  imod (Rounds.fund ER (sched m) cells minted) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold share posn; simp only [bigSep_sep']
  isplitl [Hst']; · iexact Hst'
  isplitl [Hat']; · iexact Hat'
  isplitl [Hr']; · iexact Hr'
  iexact Htok'

/-! ## The semaphores -/

/-- The kernel's own semaphores. -/
def osem : Fin 19 → SemLoc sig := fun i => .dma (⟨i.val + 2, by have h := i.isLt; show i.val + 2 < 21; omega⟩ : Fin 21)

theorem ownSemFacts : Pipeline.OwnSemFacts cfg0.spec osem := by decide

theorem own_eq (c : Dev nD) : (Pipeline.ownSems0 (Ix := ℕ) (Name := ℕ) (U := UU) (Lvl := ℕ) (Val := Elt F) (τ := τ) osem c : sProp 𝕄)
    = iprop((semVal (cell c (.ags 0)) 0 ∗ semVal (cell c (.ags 1)) 0 ∗ semVal (cell c (.ags 2)) 0 ∗ semVal (cell c (.agr 0)) 0 ∗ semVal (cell c (.agr 1)) 0
      ∗ semVal (cell c (.agr 2)) 0 ∗ semVal (cell c (.agr 3)) 0 ∗ semVal (cell c (.rss 0)) 0 ∗ semVal (cell c (.rss 1)) 0 ∗ semVal (cell c (.rss 2)) 0
      ∗ semVal (cell c (.rsr 0)) 0 ∗ semVal (cell c (.rsr 1)) 0 ∗ semVal (cell c (.rsr 2)) 0 ∗ semVal (cell c (.rsr 3)) 0) ∗ wsems c) := by
  rw [Pipeline.ownSems0_eq_of_list c osem [0, 1, 2, 3, 4, 5, 6, 7, 8, 9, 10, 11, 12, 13, 14, 15, 16, 17, 18] (by decide) (by decide)]
  unfold wsems
  simp only [bigSepL_cons_cons, bigSepL_singleton, sep_assoc_eq]
  rfl

theorem barrier_eq (c : Dev nD) : (unscopedSems0 c : sProp 𝕄) = semVal (cell c .bar) 0 := by
  unfold unscopedSems0; rw [bigSep_eq_bigSepL_of_eq [SemLoc.reg barS] (by decide) (by decide)]; rfl

theorem sems_eq (c : Dev nD) :
    (iprop(Pipeline.ownSems0 (Ix := ℕ) (Name := ℕ) (U := UU) (Lvl := ℕ) (Val := Elt F) (τ := τ) osem c ∗ unscopedSems0 c) : sProp 𝕄)
      = iprop((bigSep Finset.univ fun i : CI => semVal (cell c i) 0) ∗ wsems c) := by
  rw [own_eq, barrier_eq, bigSep_univ_eq_bigSepL (I := CI) [.bar, .ags 0, .ags 1, .ags 2, .agr 0, .agr 1, .agr 2, .agr 3, .rss 0, .rss 1, .rss 2, .rsr 0, .rsr 1, .rsr 2, .rsr 3]
    (by decide) (by decide)]
  simp only [bigSepL_cons_cons, bigSepL_singleton, sep_assoc_eq]
  ac_rfl

theorem core_alloc (c : Dev nD) :
    iprop(Pipeline.ownSems0 (Ix := ℕ) (Name := ℕ) (U := UU) (Lvl := ℕ) (Val := Elt F) (τ := τ) osem c ∗ unscopedSems0 c ∗ share m c)
      ⊢ |={Set.univ}=> iprop((bigSep Finset.univ fun i : CI => iprop(∃ κ : ℕ, cellInv ER (sched m) κ (cell c i)))
          ∗ (bigSep Finset.univ fun i : CI => reached ER (cell c i) 0) ∗ (posn c ∗ pays c ∗ wsems c)) := by
  unfold share
  iintro ⟨Hos, Hus, Hst, Hat, Hr, Htok⟩
  ihave Hv := (Entails.of_eq (sems_eq (F := F) c)) $$ [Hos Hus]
  · isplitl [Hos] <;> iassumption
  icases Hv with ⟨Hv, Hw⟩
  imod (show iprop((bigSep Finset.univ fun i : CI => semVal (cell c i) 0) ∗ bigSep Finset.univ fun i : CI => roundState ER (sched m) (cell c i) 0)
      ⊢ (|={Set.univ}=> bigSep Finset.univ fun i : CI => iprop(∃ κ : ℕ, cellInv ER (sched m) κ (cell c i)) : sProp 𝕄) from by
        rw [← bigSep_sep']
        exact (bigSep_mono fun i _ => (Rounds.body_intro ER (sched m) (cell c i)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- Every semaphore's invariant, and that its round 0 is reached. -/
def records (N : Dev nD × CI → ℕ) : sProp 𝕄 :=
  iprop((bigSep Finset.univ fun x : Dev nD × CI => cellInv ER (sched m) (N x) (cell x.1 x.2))
    ∗ bigSep Finset.univ fun x : Dev nD × CI => reached ER (cell x.1 x.2) 0)
instance records_persistent (N : Dev nD × CI → ℕ) : BI.Persistent (records m N) := by unfold records; infer_instance

/-- What a device has once the invariants are made. -/
def share' (c : Dev nD) : sProp 𝕄 := iprop(∃ N, records m N ∗ posn c ∗ pays c ∗ wsems c)

theorem with_records (N : Dev nD × CI → ℕ) :
    iprop(records m N ∗ bigSep Finset.univ fun c : Dev nD => iprop(posn c ∗ pays c ∗ wsems c)) ⊢ bigSep Finset.univ (share' m) :=
  (sep_mono_left (BI.bigSep_of_persistent Finset.univ (records m N))).trans (by
    rw [← bigSep_sep']
    exact bigSep_mono fun c _ => BIClass.exists_intro (Φ := fun N => iprop(records m N ∗ posn c ∗ pays c ∗ wsems c)) N)

theorem regroup :
    (bigSep Finset.univ fun c : Dev nD => iprop((bigSep Finset.univ fun i : CI => iprop(∃ κ : ℕ, cellInv ER (sched m) κ (cell c i)))
          ∗ (bigSep Finset.univ fun i : CI => reached ER (cell c i) 0) ∗ (posn c ∗ pays c ∗ wsems c)) : sProp 𝕄)
      ⊢ bigSep Finset.univ (share' m) := by
  rw [bigSep_sep', bigSep_sep' (Φ := fun c : Dev nD => bigSep Finset.univ fun i : CI => (reached ER (cell c i) 0 : sProp 𝕄)),
    ← bigSep_univ_prod (fun x : Dev nD × CI => iprop(∃ κ : ℕ, cellInv ER (sched m) κ (cell x.1 x.2))),
    ← bigSep_univ_prod (fun x : Dev nD × CI => (reached ER (cell x.1 x.2) 0 : sProp 𝕄))]
  iintro ⟨HI, #HR, Hrest⟩
  ihave HN := (BI.bigSep_exists_pi Finset.univ (fun (x : Dev nD × CI) (κ : ℕ) => (cellInv ER (sched m) κ (cell x.1 x.2) : sProp 𝕄))) $$ HI
  icases HN with ⟨%N, #HI⟩
  iapply (with_records m N)
  isplitr
  · unfold records; isplitl; · iexact HI
    iexact HR
  · iexact Hrest

theorem all_alloc : (bigSep Finset.univ fun c => iprop(Pipeline.ownSems0 (Ix := ℕ) (Name := ℕ) (U := UU) (Lvl := ℕ) (Val := Elt F) (τ := τ) osem c ∗ unscopedSems0 c ∗ share m c) : sProp 𝕄)
    ⊢ |={Set.univ}=> bigSep Finset.univ (share' m) :=
  ((bigSep_mono fun c _ => core_alloc m c).trans (bigSep_fupd _ _)).trans (BI.fupd_mono (regroup m))

end Cert.Mlp

end
-- ==== Proof.Launch.lean ====
/- The whole run: every execution ends, the result array holding the last layer's output, the arguments as they were, every semaphore at zero. -/
module

public import proofs.«01_k».proof.Proof.Fund
public import Idealize.ShloMosaic.Lib.Pipeline.CollectiveSegs

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ) (ρ : Dev nD → PrngReg)

/-! ## The launch's conditions -/

theorem weights_eq (c : Dev nD) :
    (Pipeline.unscopedRestP Pipeline.Prefetch.none cfg0.spec c (fun b => m ((c : Thread nD τ).loc b)) : sProp 𝕄) = weights m c := by
  rw [Pipeline.unscopedRestP_none, unscopedRest0_eq]
  unfold weights three woutp
  rw [winp_eq, winp_eq, winp_eq]
  simp only [sep_assoc_eq]
  rfl

theorem bufs_eq (c : Dev nD) : (Pipeline.scopedRest cfg0.spec c : sProp 𝕄) = bufs c := by
  rw [scopedRest0_eq]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share' m c)
      ⊢ |={Set.univ}=> iprop(startOf m c ∗ emp) := by
  rw [weights_eq, creds_eq]
  unfold startOf share' records Ctx
  iintro ⟨Hw, #HL, Hc, -, ⟨%N, ⟨#HI, #HR⟩, Hp, Hy, Hs⟩⟩
  imodintro
  isplitl
  · iexists N
    isplitr
    · isplitr; · iexact HI
      isplitr; · iexact HR
      iexact HL
    isplitl [Hp]; · iexact Hp
    isplitl [Hy Hc]
    · rw [toks_eq]
      isplitl [Hy] <;> iassumption
    isplitl [Hs] <;> iassumption
  · iempintro

theorem first_intro (c : Dev nD) :
    iprop(startOf m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hb⟩
  isplitl [Hs] <;> iassumption

theorem last_exit (c : Dev nD) :
    (dats m ρ 0 c).Φ (Fin.last cfg0.N)
      ⊢ iprop((unscopedSems0 c ∗ weights m c) ∗ Pipeline.ownSems0 osem c ∗ Pipeline.scopedRest cfg0.spec c) := by
  rw [show (dats m ρ 0 c).Φ (Fin.last cfg0.N) = Φ₁ m c from rfl, bufs_eq]
  unfold Φ₁ bodyEnd
  iintro ⟨Hv, Hb, Hs, Hw⟩
  ihave H := (Entails.of_eq (sems_eq (F := F) c).symm) $$ [Hv Hs]
  · isplitl [Hv] <;> iassumption
  icases H with ⟨Ho, Hu⟩
  isplitl [Hu Hw]
  · isplitl [Hu] <;> iassumption
  isplitl [Ho] <;> iassumption

/-- A wait for a window's transfer. -/
theorem stage_wait (c : Dev nD) (sm : SemLoc sig) (O : CellTallies nD τ sig ℕ) (h : O = O₀ c ∨ O = 0) :
    (levAts L lv : sProp 𝕄) ⊢ MayWait (c : Thread nD τ) sm (0 : ℕ) O := by
  rcases h with rfl | rfl
  · exact mayWait c sm (by decide) (l := dueAll c) ((Above.three (by decide) (by decide) _ _ _ _ _ _ _).app
      ((above_AG c (by decide) (by decide)).app ((above_due c 3 (by decide)).mono (by decide))))
  · exact mayWait c sm (by decide) (l := []) (Above.nil 0)

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    stage_wait c _ _ (by
      rcases t with ⟨_ | _, ht⟩
      · exact Or.inl rfl
      · exact Or.inr rfl)

theorem share_full (c : Dev nD) (w : Fin cfg0.W) : (dats m ρ 0 c).share w = fullShare := by
  unfold Pipeline.Dat.share; split <;> rfl

/-- The weights read at the end. -/
theorem weights_read (c : Dev nD) (s' : Phys nD τ sig (Elt F)) :
    iprop(weights m c ∗ SI s')
      ⊢ iprop(⌜(∀ l, s'.mem.mem ((wIn l).view.loc (c : Thread nD τ)) = m ((wIn l).view.loc (c : Thread nD τ)))
          ∧ ∀ l, s'.mem.mem ((wOut l).view.loc (c : Thread nD τ)) = m ((wOut l).view.loc (c : Thread nD τ))⌝ ∗ SI s') := by
  unfold weights
  rw [← three_eq, ← three_eq, bigSep_congr (s := Finset.univ) fun l _ => winp_eq m c l]
  iintro ⟨⟨Hi, Ho⟩, HSI⟩
  ihave H := (pointsTo_read_all (Finset.univ : Finset (Fin 3)) (fun l => (wIn l).view.loc (c : Thread nD τ))
    (fun l => m ((wIn l).view.loc (c : Thread nD τ))) s' fullShare) $$ [Hi HSI]
  · isplitl [Hi] <;> iassumption
  icases H with ⟨%h1, HSI⟩
  ihave H := (pointsTo_read_all (Finset.univ : Finset (Fin 3)) (fun l => (wOut l).view.loc (c : Thread nD τ))
    (fun l => m ((wOut l).view.loc (c : Thread nD τ))) s' fullShare) $$ [Ho HSI]
  · isplitl [Ho]
    · unfold woutp; iexact Ho
    · iexact HSI
  icases H with ⟨%h2, HSI⟩
  isplitr
  · ipureintro; exact ⟨fun l => h1 l (Finset.mem_univ l), fun l => h2 l (Finset.mem_univ l)⟩
  · iexact HSI

/-! ## The run -/

def u₀ : UU := (initOf (Pipeline.cells cfgs cellOf_inj) (Pipeline.launchToks cfgs cellOf_inj), (initOf cells minted, 1))

theorem split_start (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- A window's array at the end. -/
def arrEnd (c : Dev nD) (w : Fin cfg0.W) : Buf (Elt F) ((cfg0.win w).arr.view.loc (c : Thread nD τ)) := (dats m ρ 0 c).arrAt w cfg0.N

/-- What the run ends with, of the arrays. -/
def AllEnd : PUnit × MemSt nD τ sig (Elt F) → Prop := fun r => ∀ c : Dev nD,
  (∀ w : Fin cfg0.W, r.2.mem ((cfg0.win w).arr.view.loc (c : Thread nD τ)) = arrEnd m ρ c w)
    ∧ (∀ l, r.2.mem ((wIn l).view.loc (c : Thread nD τ)) = m ((wIn l).view.loc (c : Thread nD τ)))
    ∧ ∀ l, r.2.mem ((wOut l).view.loc (c : Thread nD τ)) = m ((wOut l).view.loc (c : Thread nD τ))

set_option maxRecDepth 200000 in
theorem run_main : θ_run defs (onTc (τ := τ) (main (F := F))) (s₀ m ρ) (fun r => AllEnd m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ)
    (hdistinct := winFacts0.arr_inj)
    (O₀ := O₀) (howed₀ := fun _ => rfl) (howedN := fun _ => rfl)
    (L := L) (lv := lv) (hL := L_of_ne) (hwaits := waits m ρ)
    (G := share m) (G' := share' m) (u₀ := u₀)
    (hu₀ := by
      unfold u₀
      iintro Hu
      ihave H := (split_start _ _) $$ Hu
      icases H with ⟨HP, HX⟩
      imod (fund_rounds m) $$ HX with HG
      imodintro
      isplitl [HP] <;> iassumption)
    (hglob := all_alloc m)
    (hA := fun _ _ => rfl) (hpf := fun _ k => k.elim0)
    (X := startOf m) (Y := fun c => iprop(unscopedSems0 c ∗ weights m c)) (Z := fun _ => iprop(emp))
    (hX := start_intro m ρ) (hin := first_intro m ρ) (hout := last_exit m ρ)
    (QY := fun c s => (∀ sm : SemLoc sig, sm.isScoped .tc = false → s.sem ((c.tc : Thread nD τ), sm) = 0)
      ∧ (∀ l, s.mem ((wIn l).view.loc (c : Thread nD τ)) = m ((wIn l).view.loc (c : Thread nD τ)))
      ∧ ∀ l, s.mem ((wOut l).view.loc (c : Thread nD τ)) = m ((wOut l).view.loc (c : Thread nD τ)))
    (hY := fun c s' => by
      iintro ⟨⟨Hu, Hw⟩, -, HSI⟩
      ihave H := (weights_read m c s') $$ [Hw HSI]
      · isplitl [Hw] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hw⟩
      · iexact HSI)
    (hQ := fun _ h hs => ⟨fun c => ⟨fun w => (h c).1 w, (h c).2.2.2⟩, sem_eq_zero hs fun c => (h c).2.2.1⟩)

/-! ## The arrays at the end -/

theorem arrEnd_x (c : Dev nD) : arrEnd m ρ c (0 : Fin 2) = m ((c : Thread nD τ).loc main_arg0) :=
  (dats (F := F) m ρ 0 c).arrAt_in (0 : Fin 2) rfl _

theorem read_out (f : main_v1.ty.Contents (Elt F)) : (win0_1.blk (0 : Fin 1)).view.read (Elt F) f = f :=
  Memref.read_access_unit_zero (Elt F) main_v1 (funext fun a => by fin_cases a <;> decide) (fun a => by fin_cases a <;> decide) f

theorem arrEnd_out (c : Dev nD) : arrEnd m ρ c (1 : Fin 2) = outV m := by
  refine (read_out _).symm.trans ?_
  unfold arrEnd
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- What every execution ends with. -/
def Ends (r : PUnit × MemSt nD τ sig (Elt F)) : Prop :=
  (∀ c : Dev nD, r.2.mem ((c : Thread nD τ).loc main_v1) = outV m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0

/-- The arguments as they were, every semaphore at zero. -/
def Kept (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0

theorem runs : θ_run defs (onTc (τ := τ) (main (F := F))) (s₀ m ρ) (Ends m) :=
  (θ_run defs _ _).mono (fun _ h => ⟨fun c => ⟨((h.1 c).1 (1 : Fin 2)).trans (arrEnd_out m ρ c), ((h.1 c).1 (0 : Fin 2)).trans (arrEnd_x m ρ c),
    (h.1 c).2.1 0, (h.1 c).2.1 1, (h.1 c).2.1 2, (h.1 c).2.2 0, (h.1 c).2.2 1, (h.1 c).2.2 2⟩, h.2⟩) (run_main m ρ)

end Cert.Mlp

end
-- ==== Proof.Value.lean ====
/- The result over the extended reals: the four devices' tiles are the columns of the first weights and the rows of the second, so the
   devices' sums are the reference's. -/
module

public import proofs.«01_k».proof.Proof.Contents
public import proofs.«01_k».proof.Proof.Gen.ReferenceIdeal.Run
public import Idealize.ShloMosaic.Lib.Pointwise
public import Idealize.ShloMosaic.Lib.ValueIdx
public import Idealize.ShloMosaic.Lib.Pipeline.ValueKit.Acc

@[expose] public section

noncomputable section

namespace Cert.Mlp

open Cert.KernelIdeal Cert.KernelIdeal.Gen
open Idealize.ShloMosaic Idealize.ShloMosaic.TcCoe

/-- One tile's product, element by element. -/
def term (X : Vec Ideal S256x2048 .bf16) (w : Vec Ideal S2048x512 .f32) (b : Vec Ideal S1x512x2048 .f32) (i : Fin 256) (j : Fin 2048) : EReal :=
  ∑ n : Fin 512, max (∑ k : Fin 2048, X (ix2 i k) * w (ix2 k n)) 0 * b (ix3 0 n j)

theorem pay4_apply (X : Vec Ideal S256x2048 .bf16) (A : FVec Ideal S256x2048 .f32) (w : Vec Ideal S2048x512 .f32) (b : Vec Ideal S1x512x2048 .f32)
    (i : Fin 256) (j : Fin 2048) : k0_pay4 (F := Ideal) X A w b (ix2 i j) = A (ix2 i j) + term X w b i j := by
  pointwise [k0_pay4, term]

theorem pay3_apply (i : Fin 256) (j : Fin 2048) : k0_pay3 (F := Ideal) (ix2 i j) = 0 := by
  pointwise [k0_pay3]

theorem pay45_eq (v : FVec Ideal S256x2048 .f32) : k0_pay45 (F := Ideal) v = v := by
  funext i
  pointwise [k0_pay45]

theorem pay2_eq (v : Vec Ideal S64x2048 .f32) : k0_pay2 (F := Ideal) v = v := by
  funext i
  pointwise [k0_pay2]

theorem pay13_eq (v : Vec Ideal S64x2048 .f32) : k0_pay13 (F := Ideal) v = v := by
  funext i
  pointwise [k0_pay13]

theorem pay18_eq (v : FVec Ideal S64x2048 .f32) : k0_pay18 (F := Ideal) v = v := by
  funext i
  pointwise [k0_pay18]

theorem pay16_apply (v : Vec Ideal S64x2048 .f32) (s : Vec Ideal S64x2048 .bf16) (i : S64x2048.Idx) : k0_pay16 (F := Ideal) v s i = v i + s i := by
  pointwise [k0_pay16]

theorem pay1_eq (v : Vec Ideal S256x2048 .bf16) : k0_pay1 (F := Ideal) v = v := by
  funext i
  pointwise [k0_pay1]

/-- The reference's layer. -/
def refLayer (X : FVec Ideal S256x2048 .f32) (W : FVec Ideal Cert.ReferenceIdeal.S2048x16384 .f32) (V : FVec Ideal Cert.ReferenceIdeal.S16384x2048 .f32) :
    FVec Ideal S256x2048 .f32 :=
  Host.dotGeneral Cert.ReferenceIdeal.dot_S256x16384_S16384x2048_S256x2048_1_0_0_1_n_n none
    (maximumf (Host.dotGeneral Cert.ReferenceIdeal.dot_S256x2048_S2048x16384_S256x16384_1_0_0_1_n_n none X W)
      (broadcastInDim Cert.ReferenceIdeal.S256x16384 ![] Cert.ReferenceIdeal.Gen.bcast_S_S256x16384 (constant Cert.ReferenceIdeal.S_ .f32 0x00000000#32))) V

theorem refLayer_apply (X : FVec Ideal S256x2048 .f32) (W : FVec Ideal Cert.ReferenceIdeal.S2048x16384 .f32) (V : FVec Ideal Cert.ReferenceIdeal.S16384x2048 .f32)
    (i : Fin 256) (j : Fin 2048) :
    refLayer X W V (ix2 i j) = ∑ n : Fin 16384, max (∑ k : Fin 2048, X (ix2 i k) * W (ix2 k n)) 0 * V (ix2 n j) := by
  pointwise [refLayer]

variable (m : (ℓ : Loc nD τ sig) → Buf (Elt Ideal) ℓ)

theorem accV_apply (c : Dev nD) (l : ℕ) (X : Vec Ideal S256x2048 .bf16) (i : Fin 256) (j : Fin 2048) : ∀ (n : ℕ) (h : n ≤ 8),
    accV m c l X n h (ix2 i j) = ∑ t : Fin n, term X (wV m c l (Fin.castLE h t)) (bV m c l (Fin.castLE h t)) i j
  | 0, _ => (pay3_apply i j).trans (Fin.sum_univ_zero _).symm
  | n + 1, h => by
    rw [Fin.sum_univ_castSucc]
    exact (pay4_apply _ _ _ _ i j).trans (congrArg (· + _) (accV_apply c l X i j n _))

theorem partV_apply (c : Dev nD) (l : ℕ) (X : Vec Ideal S256x2048 .bf16) (i : Fin 256) (j : Fin 2048) :
    partV m c l X (ix2 i j) = ∑ t : Fin 8, term X (wV m c l t) (bV m c l t) i j := by
  unfold partV
  rw [pay45_eq]
  exact accV_apply m c l X i j 8 _

/-- All devices' sums together, on one device: its own block of them. -/
theorem totV_apply (c : Dev nD) (l : ℕ) (X : Vec Ideal S256x2048 .bf16) (i : S64x2048.Idx) :
    totV m c l X i = ∑ s : Dev nD, partV m s l X ((rows c).emb i) := by
  rw [univ_pr c, List.sum_toFinset _ (nodup_pr c)]
  simp only [totV, pay16_apply, sentV, pay13_eq, blk, List.map_cons, List.map_nil, List.sum_cons, List.sum_nil, add_zero]
  simp only [add_assoc]

theorem ext_blk {e : EltTy} {f g : Vec Ideal S256x2048 e} (h : ∀ q, blk f q = blk g q) : f = g := by
  funext i
  obtain ⟨q, -, hq⟩ := Finset.mem_biUnion.mp (rows_cover ▸ Finset.mem_univ i)
  obtain ⟨j, -, rfl⟩ := Finset.mem_map.mp ((rows q).map_emb_univ.symm ▸ hq)
  exact congrFun (h q) j

/-! ## The tiles in the whole weights -/

section layer

variable {c : Dev nD} {l : ℕ} {X : Vec Ideal S256x2048 .f32} {W : FVec Ideal Cert.ReferenceIdeal.S2048x16384 .f32}
  {V : FVec Ideal Cert.ReferenceIdeal.S16384x2048 .f32}

/-- The hidden unit that is number n of tile t of device c. -/
def unit (c : Dev nD) (t : Fin 8) (n : Fin 512) : Fin 16384 :=
  ⟨c.val * 4096 + (t.val * 512 + n.val), by have := c.isLt; have : c.val < 4 := c.isLt; omega⟩

theorem wV_apply (h : wi m c l = Layout.block ⟨2, ![2048, 4096]⟩ ⟨2, ![2048, 16384]⟩ 1 4 c W) (t : Fin 8) (k : Fin 2048) (n : Fin 512) :
    wV m c l t (ix2 k n) = W (ix2 k (unit c t n)) := by
  unfold wV
  rw [h, Layout.block_apply]
  refine congrArg W (funext fun a => Fin.ext ?_)
  rw [Layout.Tiles.idx_val]
  fin_cases a
  · show 0 + 1 * k.val = k.val
    omega
  · show c.val * 4096 + (512 * t.val + 1 * n.val) = c.val * 4096 + (t.val * 512 + n.val)
    omega

theorem slot_ix3 (n : Fin 512) (j : Fin 2048) : (Shape.reshapeEquiv numel_slot).symm (ix3 (0 : Fin 1) n j) = ix2 n j := by
  rw [Equiv.symm_apply_eq]
  pointwise

theorem bV_apply (h : wo m c l = Layout.block ⟨2, ![4096, 2048]⟩ ⟨2, ![16384, 2048]⟩ 0 4 c V) (t : Fin 8) (n : Fin 512) (j : Fin 2048) :
    bV m c l t (ix3 0 n j) = V (ix2 (unit c t n) j) := by
  unfold bV
  rw [h, Layout.block_apply, slot_ix3]
  refine congrArg V (funext fun a => Fin.ext ?_)
  rw [Layout.Tiles.idx_val]
  fin_cases a
  · show c.val * 4096 + (512 * t.val + 1 * n.val) = c.val * 4096 + (t.val * 512 + n.val)
    omega
  · show 0 + 1 * j.val = j.val
    omega

/-- A sum over the hidden units is one over devices, tiles and units of a tile. -/
theorem sum_unit (g : Fin 16384 → EReal) : ∑ s : Dev nD, ∑ t : Fin 8, ∑ n : Fin 512, g (unit s t n) = ∑ x, g x := by
  rw [← Fin.sum_mul_add_fin 4 4096 g]
  refine Finset.sum_congr rfl fun s _ => ?_
  rw [← Fin.sum_mul_add_fin 8 512 (fun x : Fin 4096 => g ⟨s.val * 4096 + x.val, Fin.mul_add_lt_of_eq_mul (S := 4) (n := 4096) rfl s x⟩)]
  rfl

theorem sum_partV (hW : ∀ c, wi m c l = Layout.block ⟨2, ![2048, 4096]⟩ ⟨2, ![2048, 16384]⟩ 1 4 c W)
    (hV : ∀ c, wo m c l = Layout.block ⟨2, ![4096, 2048]⟩ ⟨2, ![16384, 2048]⟩ 0 4 c V) (i : Fin 256) (j : Fin 2048) :
    ∑ s : Dev nD, partV m s l X (ix2 i j) = refLayer X W V (ix2 i j) := by
  rw [refLayer_apply, ← sum_unit]
  refine Finset.sum_congr rfl fun s _ => (partV_apply m s l X i j).trans (Finset.sum_congr rfl fun t _ => Finset.sum_congr rfl fun n _ => ?_)
  rw [bV_apply m (hV s)]
  simp only [wV_apply m (hW s)]

/-- A layer of the four devices is the reference's. -/
theorem layer_eq (hW : ∀ c, wi m c l = Layout.block ⟨2, ![2048, 4096]⟩ ⟨2, ![2048, 16384]⟩ 1 4 c W)
    (hV : ∀ c, wo m c l = Layout.block ⟨2, ![4096, 2048]⟩ ⟨2, ![16384, 2048]⟩ 0 4 c V) (hX : actV m l = X) :
    actV m (l + 1) = refLayer X W V := by
  subst hX
  refine ext_blk fun q => ?_
  refine (blk_asm _ q).trans (funext fun i => ?_)
  rw [pay18_eq, totV_apply]
  show _ = refLayer (actV m l) W V ((rows q).emb i)
  rw [eq_ix2 ((rows q).emb i)]
  exact sum_partV m hW hV _ _

end layer

/-- The activations at the start are the whole x. -/
theorem act_zero {X : FVec Ideal S256x2048 .f32}
    (hx : ∀ c : Dev nD, m ((c : Thread nD τ).loc main_arg0) = Layout.block ⟨2, ![64, 2048]⟩ ⟨2, ![256, 2048]⟩ 0 4 c X) : actV m 0 = X := by
  refine ext_blk fun q => (blk_asm _ q).trans ?_
  rw [pay2_eq]
  have e : xV m q = m ((q : Thread nD τ).loc main_arg0) :=
    Memref.read_access_unit_zero (Elt Ideal) main_arg0 (funext fun a => by fin_cases a <;> decide) (fun a => by fin_cases a <;> decide) _
  rw [e, hx]
  funext i
  rw [Layout.block_apply]
  refine congrArg X (funext fun a => Fin.ext ?_)
  rw [Layout.Tiles.idx_val]
  fin_cases a
  · show q.val * 64 + (i 0).val = 64 * q.val + 1 * (i 0).val
    omega
  · show (i 1).val = 0 + 1 * (i 1).val
    omega

/-- The result is the reference's three layers on x. -/
theorem outV_eq {X : FVec Ideal S256x2048 .f32} {W1 W2 W3 : FVec Ideal Cert.ReferenceIdeal.S2048x16384 .f32}
    {V1 V2 V3 : FVec Ideal Cert.ReferenceIdeal.S16384x2048 .f32}
    (hx : ∀ c : Dev nD, m ((c : Thread nD τ).loc main_arg0) = Layout.block ⟨2, ![64, 2048]⟩ ⟨2, ![256, 2048]⟩ 0 4 c X)
    (h1 : ∀ c : Dev nD, m ((c : Thread nD τ).loc main_arg1) = Layout.block ⟨2, ![2048, 4096]⟩ ⟨2, ![2048, 16384]⟩ 1 4 c W1)
    (h2 : ∀ c : Dev nD, m ((c : Thread nD τ).loc main_arg2) = Layout.block ⟨2, ![2048, 4096]⟩ ⟨2, ![2048, 16384]⟩ 1 4 c W2)
    (h3 : ∀ c : Dev nD, m ((c : Thread nD τ).loc main_arg3) = Layout.block ⟨2, ![2048, 4096]⟩ ⟨2, ![2048, 16384]⟩ 1 4 c W3)
    (h4 : ∀ c : Dev nD, m ((c : Thread nD τ).loc main_arg4) = Layout.block ⟨2, ![4096, 2048]⟩ ⟨2, ![16384, 2048]⟩ 0 4 c V1)
    (h5 : ∀ c : Dev nD, m ((c : Thread nD τ).loc main_arg5) = Layout.block ⟨2, ![4096, 2048]⟩ ⟨2, ![16384, 2048]⟩ 0 4 c V2)
    (h6 : ∀ c : Dev nD, m ((c : Thread nD τ).loc main_arg6) = Layout.block ⟨2, ![4096, 2048]⟩ ⟨2, ![16384, 2048]⟩ 0 4 c V3) :
    outV m = refLayer (refLayer (refLayer X W1 V1) W2 V2) W3 V3 :=
  (pay1_eq _).trans (layer_eq m (l := 2) h3 h6 (layer_eq m (l := 1) h2 h5 (layer_eq m (l := 0) h1 h4 (act_zero m hx))))

end Cert.Mlp

end
-- ==== Proof.lean ====
/- The proof of the five claims. -/
module

public import proofs.«01_k».proof.Defs
public import proofs.«01_k».proof.Proof.Launch
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The run, any floats: the arguments end unchanged and every semaphore is zero. -/
theorem frame_any {F : FTy → Type} [FloatOps F] (m) (ρ) :
    θ_run (Cert.KernelIdeal.defs (F := F)) (onTc (τ := Cert.KernelIdeal.τ) (Cert.KernelIdeal.main (F := F))) ⟨m, fun _ => 0, ρ⟩ (Cert.Mlp.Kept m) :=
  (θ_run Cert.KernelIdeal.defs _ _).mono (fun _ h => ⟨fun c => (h.1 c).2, h.2⟩) (Cert.Mlp.runs (F := F) m ρ)

/-- The two programs' tables of bodies are one. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => rfl

@[inherit_doc defs₀_eq] theorem defs_eq {F : FTy → Type} [FloatOps F] : Cert.Kernel.defs (F := F) = Cert.KernelIdeal.defs (F := F) :=
  congrArg (Pipeline.defs Cert.KernelIdeal.pcfgs) defs₀_eq

theorem frame_kernel : Cert.quiescent_Kernel := fun m ρ _ => by
  rw [defs_eq]
  exact frame_any (F := Bits) m ρ
theorem frame_ideal : Cert.quiescent_KernelIdeal := fun m ρ _ => frame_any (F := Ideal) m ρ
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ h =>
  ⟨_, (θ_run Cert.KernelIdeal.defs _ _).mono (fun r hr c => ⟨(hr.1 c).1.trans (Cert.Mlp.outV_eq m (fun c => (h c).1) (fun c => (h c).2.1)
      (fun c => (h c).2.2.1) (fun c => (h c).2.2.2.1) (fun c => (h c).2.2.2.2.1) (fun c => (h c).2.2.2.2.2.1) (fun c => (h c).2.2.2.2.2.2)),
      (hr.1 c).2⟩) (Cert.Mlp.runs (F := Ideal) m g),
    (θ_run Cert.ReferenceIdeal.defs _ _).mono (fun r hr => hr 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_ref, trivial, algebraic⟩

end Cert.Proof

end
